-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpKernelIdeal_finite_gate [hPre_finite_gate : Cert.Pre_finite_gate.Facts] (m : (ℓ : Loc Cert.UpKernelIdeal.nD Cert.UpKernelIdeal.τ Cert.UpKernelIdeal.sig) → Buf (Elt Ideal) ℓ) : Prop :=
  ∀ c : Dev Cert.UpKernelIdeal.nD,
    (Cert.Pre_finite_gate.fn (F := Ideal) (m ((c.tc : Thread Cert.UpKernelIdeal.nD Cert.UpKernelIdeal.τ).loc Cert.UpKernelIdeal.main_arg0)) (m ((c.tc : Thread Cert.UpKernelIdeal.nD Cert.UpKernelIdeal.τ).loc Cert.UpKernelIdeal.main_arg1)) (m ((c.tc : Thread Cert.UpKernelIdeal.nD Cert.UpKernelIdeal.τ).loc Cert.UpKernelIdeal.main_arg2)) (m ((c.tc : Thread Cert.UpKernelIdeal.nD Cert.UpKernelIdeal.τ).loc Cert.UpKernelIdeal.main_arg3))) = (fun _ => 1#1)

def Pre_UpReferenceIdeal (m : (ℓ : Loc Cert.UpReferenceIdeal.nD Cert.UpReferenceIdeal.τ Cert.UpReferenceIdeal.sig) → Buf (Elt Ideal) ℓ) : Prop :=
  True

def Pre_UpReferenceIdeal_finite_gate [hPre_finite_gate : Cert.Pre_finite_gate.Facts] (m : (ℓ : Loc Cert.UpReferenceIdeal.nD Cert.UpReferenceIdeal.τ Cert.UpReferenceIdeal.sig) → Buf (Elt Ideal) ℓ) : Prop :=
  ∀ c : Dev Cert.UpReferenceIdeal.nD,
    (Cert.Pre_finite_gate.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3))) = (fun _ => 1#1)

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_QkvKernel (m : (ℓ : Loc Cert.QkvKernel.nD Cert.QkvKernel.τ Cert.QkvKernel.sig) → Buf (Elt Bits) ℓ) : Prop :=
  True

def Pre_QkvKernelIdeal (m : (ℓ : Loc Cert.QkvKernelIdeal.nD Cert.QkvKernelIdeal.τ Cert.QkvKernelIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_MidKernel (m : (ℓ : Loc Cert.MidKernel.nD Cert.MidKernel.τ Cert.MidKernel.sig) → Buf (Elt Bits) ℓ) : Prop :=
  True

def Pre_MidKernelIdeal (m : (ℓ : Loc Cert.MidKernelIdeal.nD Cert.MidKernelIdeal.τ Cert.MidKernelIdeal.sig) → Buf (Elt Ideal) ℓ) : Prop :=
  True

def Pre_MidKernelIdeal_finite_scores [hPre_finite_scores : Cert.Pre_finite_scores.Facts] (m : (ℓ : Loc Cert.MidKernelIdeal.nD Cert.MidKernelIdeal.τ Cert.MidKernelIdeal.sig) → Buf (Elt Ideal) ℓ) : Prop :=
  ∀ c : Dev Cert.MidKernelIdeal.nD,
    (Cert.Pre_finite_scores.fn (F := Ideal) (m ((c.tc : Thread Cert.MidKernelIdeal.nD Cert.MidKernelIdeal.τ).loc Cert.MidKernelIdeal.main_arg0)) (m ((c.tc : Thread Cert.MidKernelIdeal.nD Cert.MidKernelIdeal.τ).loc Cert.MidKernelIdeal.main_arg1)) (m ((c.tc : Thread Cert.MidKernelIdeal.nD Cert.MidKernelIdeal.τ).loc Cert.MidKernelIdeal.main_arg2)) (m ((c.tc : Thread Cert.MidKernelIdeal.nD Cert.MidKernelIdeal.τ).loc Cert.MidKernelIdeal.main_arg3)) (m ((c.tc : Thread Cert.MidKernelIdeal.nD Cert.MidKernelIdeal.τ).loc Cert.MidKernelIdeal.main_arg4)) (m ((c.tc : Thread Cert.MidKernelIdeal.nD Cert.MidKernelIdeal.τ).loc Cert.MidKernelIdeal.main_arg5)) (m ((c.tc : Thread Cert.MidKernelIdeal.nD Cert.MidKernelIdeal.τ).loc Cert.MidKernelIdeal.main_arg6)) (m ((c.tc : Thread Cert.MidKernelIdeal.nD Cert.MidKernelIdeal.τ).loc Cert.MidKernelIdeal.main_arg7)) (m ((c.tc : Thread Cert.MidKernelIdeal.nD Cert.MidKernelIdeal.τ).loc Cert.MidKernelIdeal.main_arg8)) (m ((c.tc : Thread Cert.MidKernelIdeal.nD Cert.MidKernelIdeal.τ).loc Cert.MidKernelIdeal.main_arg9))) = (fun _ => 1#1)

def Pre_MidReferenceIdeal (m : (ℓ : Loc Cert.MidReferenceIdeal.nD Cert.MidReferenceIdeal.τ Cert.MidReferenceIdeal.sig) → Buf (Elt Ideal) ℓ) : Prop :=
  True

def Pre_MidReferenceIdeal_finite_scores [hPre_finite_scores : Cert.Pre_finite_scores.Facts] (m : (ℓ : Loc Cert.MidReferenceIdeal.nD Cert.MidReferenceIdeal.τ Cert.MidReferenceIdeal.sig) → Buf (Elt Ideal) ℓ) : Prop :=
  ∀ c : Dev Cert.MidReferenceIdeal.nD,
    (Cert.Pre_finite_scores.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2)) (m ((c.tc : Thread Cert.MidReferenceIdeal.nD Cert.MidReferenceIdeal.τ).loc Cert.MidReferenceIdeal.main_arg3)) (m ((c.tc : Thread Cert.MidReferenceIdeal.nD Cert.MidReferenceIdeal.τ).loc Cert.MidReferenceIdeal.main_arg4)) (m ((c.tc : Thread Cert.MidReferenceIdeal.nD Cert.MidReferenceIdeal.τ).loc Cert.MidReferenceIdeal.main_arg5)) (m ((c.tc : Thread Cert.MidReferenceIdeal.nD Cert.MidReferenceIdeal.τ).loc Cert.MidReferenceIdeal.main_arg6)) (m ((c.tc : Thread Cert.MidReferenceIdeal.nD Cert.MidReferenceIdeal.τ).loc Cert.MidReferenceIdeal.main_arg7)) (m ((c.tc : Thread Cert.MidReferenceIdeal.nD Cert.MidReferenceIdeal.τ).loc Cert.MidReferenceIdeal.main_arg8)) (m ((c.tc : Thread Cert.MidReferenceIdeal.nD Cert.MidReferenceIdeal.τ).loc Cert.MidReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2)
      ∧ r.2.mem ((c.tc : Thread Cert.UpKernel.nD Cert.UpKernel.τ).loc Cert.UpKernel.main_arg3) = m ((c.tc : Thread Cert.UpKernel.nD Cert.UpKernel.τ).loc Cert.UpKernel.main_arg3))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3))
      ∧ r.2.sem = fun _ => 0)

def quiescent_UpKernelIdeal_pre_finite_gate [hUpKernelIdeal : Cert.UpKernelIdeal.Facts] [hPre_finite_gate : Cert.Pre_finite_gate.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal_finite_gate m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3))
      ∧ r.2.sem = fun _ => 0)

def quiescent_UpReferenceIdeal_pre_finite_gate [hUpReferenceIdeal : Cert.UpReferenceIdeal.Facts] [hPre_finite_gate : Cert.Pre_finite_gate.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal_finite_gate m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_QkvKernel [hQkvKernel : Cert.QkvKernel.Facts] : Prop :=
  ∀ (m : (ℓ : Loc Cert.QkvKernel.nD Cert.QkvKernel.τ Cert.QkvKernel.sig) → Buf (Elt Bits) ℓ) (g : Dev Cert.QkvKernel.nD → PrngReg), Pre_QkvKernel m →
    θ_run (Cert.QkvKernel.defs (F := Bits)) (onTc (τ := Cert.QkvKernel.τ) (Cert.QkvKernel.main (F := Bits))) ⟨m, fun _ => 0, g⟩ (fun r => (∀ c : Dev Cert.QkvKernel.nD,
      r.2.mem ((c.tc : Thread Cert.QkvKernel.nD Cert.QkvKernel.τ).loc Cert.QkvKernel.main_arg0) = m ((c.tc : Thread Cert.QkvKernel.nD Cert.QkvKernel.τ).loc Cert.QkvKernel.main_arg0)
      ∧ r.2.mem ((c.tc : Thread Cert.QkvKernel.nD Cert.QkvKernel.τ).loc Cert.QkvKernel.main_arg1) = m ((c.tc : Thread Cert.QkvKernel.nD Cert.QkvKernel.τ).loc Cert.QkvKernel.main_arg1))
      ∧ r.2.sem = fun _ => 0)

def quiescent_QkvKernelIdeal [hQkvKernelIdeal : Cert.QkvKernelIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg), Pre_QkvKernelIdeal m →
    θ_run (Cert.QkvKernelIdeal.defs (F := Ideal)) (onTc (τ := Cert.QkvKernelIdeal.τ) (Cert.QkvKernelIdeal.main (F := Ideal))) ⟨m, fun _ => 0, g⟩ (fun r => (∀ c : Dev Cert.QkvKernelIdeal.nD,
      r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
      ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8)
      ∧ r.2.mem ((c.tc : Thread Cert.MergeKernel.nD Cert.MergeKernel.τ).loc Cert.MergeKernel.main_arg9) = m ((c.tc : Thread Cert.MergeKernel.nD Cert.MergeKernel.τ).loc Cert.MergeKernel.main_arg9))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def quiescent_MidKernel [hMidKernel : Cert.MidKernel.Facts] : Prop :=
  ∀ (m : (ℓ : Loc Cert.MidKernel.nD Cert.MidKernel.τ Cert.MidKernel.sig) → Buf (Elt Bits) ℓ) (g : Dev Cert.MidKernel.nD → PrngReg), Pre_MidKernel m →
    θ_run (Cert.MidKernel.defs (F := Bits)) (onTc (τ := Cert.MidKernel.τ) (Cert.MidKernel.main (F := Bits))) ⟨m, fun _ => 0, g⟩ (fun r => (∀ c : Dev Cert.MidKernel.nD,
      r.2.mem ((c.tc : Thread Cert.MidKernel.nD Cert.MidKernel.τ).loc Cert.MidKernel.main_arg0) = m ((c.tc : Thread Cert.MidKernel.nD Cert.MidKernel.τ).loc Cert.MidKernel.main_arg0)
      ∧ r.2.mem ((c.tc : Thread Cert.MidKernel.nD Cert.MidKernel.τ).loc Cert.MidKernel.main_arg1) = m ((c.tc : Thread Cert.MidKernel.nD Cert.MidKernel.τ).loc Cert.MidKernel.main_arg1)
      ∧ r.2.mem ((c.tc : Thread Cert.MidKernel.nD Cert.MidKernel.τ).loc Cert.MidKernel.main_arg2) = m ((c.tc : Thread Cert.MidKernel.nD Cert.MidKernel.τ).loc Cert.MidKernel.main_arg2)
      ∧ r.2.mem ((c.tc : Thread Cert.MidKernel.nD Cert.MidKernel.τ).loc Cert.MidKernel.main_arg3) = m ((c.tc : Thread Cert.MidKernel.nD Cert.MidKernel.τ).loc Cert.MidKernel.main_arg3)
      ∧ r.2.mem ((c.tc : Thread Cert.MidKernel.nD Cert.MidKernel.τ).loc Cert.MidKernel.main_arg4) = m ((c.tc : Thread Cert.MidKernel.nD Cert.MidKernel.τ).loc Cert.MidKernel.main_arg4)
      ∧ r.2.mem ((c.tc : Thread Cert.MidKernel.nD Cert.MidKernel.τ).loc Cert.MidKernel.main_arg5) = m ((c.tc : Thread Cert.MidKernel.nD Cert.MidKernel.τ).loc Cert.MidKernel.main_arg5)
      ∧ r.2.mem ((c.tc : Thread Cert.MidKernel.nD Cert.MidKernel.τ).loc Cert.MidKernel.main_arg6) = m ((c.tc : Thread Cert.MidKernel.nD Cert.MidKernel.τ).loc Cert.MidKernel.main_arg6)
      ∧ r.2.mem ((c.tc : Thread Cert.MidKernel.nD Cert.MidKernel.τ).loc Cert.MidKernel.main_arg7) = m ((c.tc : Thread Cert.MidKernel.nD Cert.MidKernel.τ).loc Cert.MidKernel.main_arg7)
      ∧ r.2.mem ((c.tc : Thread Cert.MidKernel.nD Cert.MidKernel.τ).loc Cert.MidKernel.main_arg8) = m ((c.tc : Thread Cert.MidKernel.nD Cert.MidKernel.τ).loc Cert.MidKernel.main_arg8)
      ∧ r.2.mem ((c.tc : Thread Cert.MidKernel.nD Cert.MidKernel.τ).loc Cert.MidKernel.main_arg9) = m ((c.tc : Thread Cert.MidKernel.nD Cert.MidKernel.τ).loc Cert.MidKernel.main_arg9))
      ∧ r.2.sem = fun _ => 0)

def quiescent_MidKernelIdeal [hMidKernelIdeal : Cert.MidKernelIdeal.Facts] : Prop :=
  ∀ (m : (ℓ : Loc Cert.MidKernelIdeal.nD Cert.MidKernelIdeal.τ Cert.MidKernelIdeal.sig) → Buf (Elt Ideal) ℓ) (g : Dev Cert.MidKernelIdeal.nD → PrngReg), Pre_MidKernelIdeal m →
    θ_run (Cert.MidKernelIdeal.defs (F := Ideal)) (onTc (τ := Cert.MidKernelIdeal.τ) (Cert.MidKernelIdeal.main (F := Ideal))) ⟨m, fun _ => 0, g⟩ (fun r => (∀ c : Dev Cert.MidKernelIdeal.nD,
      r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
      ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
      ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2)
      ∧ r.2.mem ((c.tc : Thread Cert.MidKernelIdeal.nD Cert.MidKernelIdeal.τ).loc Cert.MidKernelIdeal.main_arg3) = m ((c.tc : Thread Cert.MidKernelIdeal.nD Cert.MidKernelIdeal.τ).loc Cert.MidKernelIdeal.main_arg3)
      ∧ r.2.mem ((c.tc : Thread Cert.MidKernelIdeal.nD Cert.MidKernelIdeal.τ).loc Cert.MidKernelIdeal.main_arg4) = m ((c.tc : Thread Cert.MidKernelIdeal.nD Cert.MidKernelIdeal.τ).loc Cert.MidKernelIdeal.main_arg4)
      ∧ r.2.mem ((c.tc : Thread Cert.MidKernelIdeal.nD Cert.MidKernelIdeal.τ).loc Cert.MidKernelIdeal.main_arg5) = m ((c.tc : Thread Cert.MidKernelIdeal.nD Cert.MidKernelIdeal.τ).loc Cert.MidKernelIdeal.main_arg5)
      ∧ r.2.mem ((c.tc : Thread Cert.MidKernelIdeal.nD Cert.MidKernelIdeal.τ).loc Cert.MidKernelIdeal.main_arg6) = m ((c.tc : Thread Cert.MidKernelIdeal.nD Cert.MidKernelIdeal.τ).loc Cert.MidKernelIdeal.main_arg6)
      ∧ r.2.mem ((c.tc : Thread Cert.MidKernelIdeal.nD Cert.MidKernelIdeal.τ).loc Cert.MidKernelIdeal.main_arg7) = m ((c.tc : Thread Cert.MidKernelIdeal.nD Cert.MidKernelIdeal.τ).loc Cert.MidKernelIdeal.main_arg7)
      ∧ r.2.mem ((c.tc : Thread Cert.MidKernelIdeal.nD Cert.MidKernelIdeal.τ).loc Cert.MidKernelIdeal.main_arg8) = m ((c.tc : Thread Cert.MidKernelIdeal.nD Cert.MidKernelIdeal.τ).loc Cert.MidKernelIdeal.main_arg8)
      ∧ r.2.mem ((c.tc : Thread Cert.MidKernelIdeal.nD Cert.MidKernelIdeal.τ).loc Cert.MidKernelIdeal.main_arg9) = m ((c.tc : Thread Cert.MidKernelIdeal.nD Cert.MidKernelIdeal.τ).loc Cert.MidKernelIdeal.main_arg9))
      ∧ r.2.sem = fun _ => 0)

def quiescent_MidKernelIdeal_pre_finite_scores [hMidKernelIdeal : Cert.MidKernelIdeal.Facts] [hPre_finite_scores : Cert.Pre_finite_scores.Facts] : Prop :=
  ∀ (m : (ℓ : Loc Cert.MidKernelIdeal.nD Cert.MidKernelIdeal.τ Cert.MidKernelIdeal.sig) → Buf (Elt Ideal) ℓ) (g : Dev Cert.MidKernelIdeal.nD → PrngReg), Pre_MidKernelIdeal_finite_scores m →
    θ_run (Cert.MidKernelIdeal.defs (F := Ideal)) (onTc (τ := Cert.MidKernelIdeal.τ) (Cert.MidKernelIdeal.main (F := Ideal))) ⟨m, fun _ => 0, g⟩ (fun r => (∀ c : Dev Cert.MidKernelIdeal.nD,
      r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
      ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
      ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2)
      ∧ r.2.mem ((c.tc : Thread Cert.MidKernelIdeal.nD Cert.MidKernelIdeal.τ).loc Cert.MidKernelIdeal.main_arg3) = m ((c.tc : Thread Cert.MidKernelIdeal.nD Cert.MidKernelIdeal.τ).loc Cert.MidKernelIdeal.main_arg3)
      ∧ r.2.mem ((c.tc : Thread Cert.MidKernelIdeal.nD Cert.MidKernelIdeal.τ).loc Cert.MidKernelIdeal.main_arg4) = m ((c.tc : Thread Cert.MidKernelIdeal.nD Cert.MidKernelIdeal.τ).loc Cert.MidKernelIdeal.main_arg4)
      ∧ r.2.mem ((c.tc : Thread Cert.MidKernelIdeal.nD Cert.MidKernelIdeal.τ).loc Cert.MidKernelIdeal.main_arg5) = m ((c.tc : Thread Cert.MidKernelIdeal.nD Cert.MidKernelIdeal.τ).loc Cert.MidKernelIdeal.main_arg5)
      ∧ r.2.mem ((c.tc : Thread Cert.MidKernelIdeal.nD Cert.MidKernelIdeal.τ).loc Cert.MidKernelIdeal.main_arg6) = m ((c.tc : Thread Cert.MidKernelIdeal.nD Cert.MidKernelIdeal.τ).loc Cert.MidKernelIdeal.main_arg6)
      ∧ r.2.mem ((c.tc : Thread Cert.MidKernelIdeal.nD Cert.MidKernelIdeal.τ).loc Cert.MidKernelIdeal.main_arg7) = m ((c.tc : Thread Cert.MidKernelIdeal.nD Cert.MidKernelIdeal.τ).loc Cert.MidKernelIdeal.main_arg7)
      ∧ r.2.mem ((c.tc : Thread Cert.MidKernelIdeal.nD Cert.MidKernelIdeal.τ).loc Cert.MidKernelIdeal.main_arg8) = m ((c.tc : Thread Cert.MidKernelIdeal.nD Cert.MidKernelIdeal.τ).loc Cert.MidKernelIdeal.main_arg8)
      ∧ r.2.mem ((c.tc : Thread Cert.MidKernelIdeal.nD Cert.MidKernelIdeal.τ).loc Cert.MidKernelIdeal.main_arg9) = m ((c.tc : Thread Cert.MidKernelIdeal.nD Cert.MidKernelIdeal.τ).loc Cert.MidKernelIdeal.main_arg9))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6)
      ∧ r.2.mem ((c.tc : Thread Cert.MidReferenceIdeal.nD Cert.MidReferenceIdeal.τ).loc Cert.MidReferenceIdeal.main_arg7) = m ((c.tc : Thread Cert.MidReferenceIdeal.nD Cert.MidReferenceIdeal.τ).loc Cert.MidReferenceIdeal.main_arg7)
      ∧ r.2.mem ((c.tc : Thread Cert.MidReferenceIdeal.nD Cert.MidReferenceIdeal.τ).loc Cert.MidReferenceIdeal.main_arg8) = m ((c.tc : Thread Cert.MidReferenceIdeal.nD Cert.MidReferenceIdeal.τ).loc Cert.MidReferenceIdeal.main_arg8)
      ∧ r.2.mem ((c.tc : Thread Cert.MidReferenceIdeal.nD Cert.MidReferenceIdeal.τ).loc Cert.MidReferenceIdeal.main_arg9) = m ((c.tc : Thread Cert.MidReferenceIdeal.nD Cert.MidReferenceIdeal.τ).loc Cert.MidReferenceIdeal.main_arg9))
      ∧ r.2.sem = fun _ => 0)

def quiescent_MidReferenceIdeal_pre_finite_scores [hMidReferenceIdeal : Cert.MidReferenceIdeal.Facts] [hPre_finite_scores : Cert.Pre_finite_scores.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal_finite_scores m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6)
      ∧ r.2.mem ((c.tc : Thread Cert.MidReferenceIdeal.nD Cert.MidReferenceIdeal.τ).loc Cert.MidReferenceIdeal.main_arg7) = m ((c.tc : Thread Cert.MidReferenceIdeal.nD Cert.MidReferenceIdeal.τ).loc Cert.MidReferenceIdeal.main_arg7)
      ∧ r.2.mem ((c.tc : Thread Cert.MidReferenceIdeal.nD Cert.MidReferenceIdeal.τ).loc Cert.MidReferenceIdeal.main_arg8) = m ((c.tc : Thread Cert.MidReferenceIdeal.nD Cert.MidReferenceIdeal.τ).loc Cert.MidReferenceIdeal.main_arg8)
      ∧ r.2.mem ((c.tc : Thread Cert.MidReferenceIdeal.nD Cert.MidReferenceIdeal.τ).loc Cert.MidReferenceIdeal.main_arg9) = m ((c.tc : Thread Cert.MidReferenceIdeal.nD Cert.MidReferenceIdeal.τ).loc Cert.MidReferenceIdeal.main_arg9))
      ∧ r.2.sem = fun _ => 0)

def preserves_Kernel_KernelIdeal : Prop :=
  IdealRules.named_const.Statement Cert.KernelIdeal.κ "scale_log2_e" .f32 0x3E0293EE#32 (((Real.sqrt 128)⁻¹ * (Real.log 2)⁻¹ : ℝ) : EReal)
  ∧ IdealRules.named_const.Statement Cert.KernelIdeal.κ "scale" .f32 0x3DB504F3#32 (((Real.sqrt 128)⁻¹ : ℝ) : EReal)

def preserves_UpKernel_UpKernelIdeal : Prop :=
  True

def algebraic_UpKernelIdeal_UpReferenceIdeal_pre_finite_gate [hUpKernelIdeal : Cert.UpKernelIdeal.Facts] [hUpReferenceIdeal : Cert.UpReferenceIdeal.Facts] [hPre_finite_gate : Cert.Pre_finite_gate.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal_finite_gate m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)
      ∧ m' ((c.tc : Thread Cert.UpReferenceIdeal.nD Cert.UpReferenceIdeal.τ).loc Cert.UpReferenceIdeal.main_arg3) = m ((c.tc : Thread Cert.UpKernelIdeal.nD Cert.UpKernelIdeal.τ).loc Cert.UpKernelIdeal.main_arg3)) →
    ∃ (v0 : (c : Dev Cert.UpKernelIdeal.nD) → Buf (Elt Ideal) ((c.tc : Thread Cert.UpKernelIdeal.nD Cert.UpKernelIdeal.τ).loc Cert.UpKernelIdeal.main_v0_0)) (v1 : (c : Dev Cert.UpKernelIdeal.nD) → Buf (Elt Ideal) ((c.tc : Thread Cert.UpKernelIdeal.nD Cert.UpKernelIdeal.τ).loc Cert.UpKernelIdeal.main_v0_1)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v0_0) = v0 c
          ∧ r.2.mem ((c.tc : Thread Cert.UpKernelIdeal.nD Cert.UpKernelIdeal.τ).loc Cert.UpKernelIdeal.main_v0_1) = v1 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
          ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v5) = v0 c
          ∧ r.2.mem ((c.tc : Thread Cert.UpReferenceIdeal.nD Cert.UpReferenceIdeal.τ).loc Cert.UpReferenceIdeal.main_v6) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)
      ∧ m' ((c.tc : Thread Cert.DownReferenceIdeal.nD Cert.DownReferenceIdeal.τ).loc Cert.DownReferenceIdeal.main_arg3) = m ((c.tc : Thread Cert.DownKernelIdeal.nD Cert.DownKernelIdeal.τ).loc Cert.DownKernelIdeal.main_arg3)) →
    ∃ (v0 : (c : Dev Cert.DownKernelIdeal.nD) → Buf (Elt Ideal) ((c.tc : Thread Cert.DownKernelIdeal.nD Cert.DownKernelIdeal.τ).loc Cert.DownKernelIdeal.main_v1)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v1) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v16) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_QkvKernel_QkvKernelIdeal : Prop :=
  True

def algebraic_QkvKernelIdeal_QkvReferenceIdeal [hQkvKernelIdeal : Cert.QkvKernelIdeal.Facts] [hQkvReferenceIdeal : Cert.QkvReferenceIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvKernelIdeal m →
    (∀ c : Dev Cert.QkvKernelIdeal.nD,
      m' ((c.tc : Thread Cert.QkvReferenceIdeal.nD Cert.QkvReferenceIdeal.τ).loc Cert.QkvReferenceIdeal.main_arg0) = m ((c.tc : Thread Cert.QkvKernelIdeal.nD Cert.QkvKernelIdeal.τ).loc Cert.QkvKernelIdeal.main_arg0)
      ∧ m' ((c.tc : Thread Cert.QkvReferenceIdeal.nD Cert.QkvReferenceIdeal.τ).loc Cert.QkvReferenceIdeal.main_arg1) = m ((c.tc : Thread Cert.QkvKernelIdeal.nD Cert.QkvKernelIdeal.τ).loc Cert.QkvKernelIdeal.main_arg1)) →
    ∃ (v0 : (c : Dev Cert.QkvKernelIdeal.nD) → Buf (Elt Ideal) ((c.tc : Thread Cert.QkvKernelIdeal.nD Cert.QkvKernelIdeal.τ).loc Cert.QkvKernelIdeal.main_v0)),
      θ_run (Cert.QkvKernelIdeal.defs (F := Ideal)) (onTc (τ := Cert.QkvKernelIdeal.τ) (Cert.QkvKernelIdeal.main (F := Ideal))) ⟨m, fun _ => 0, g⟩ (fun r => ∀ c : Dev Cert.QkvKernelIdeal.nD,
          r.2.mem ((c.tc : Thread Cert.QkvKernelIdeal.nD Cert.QkvKernelIdeal.τ).loc Cert.QkvKernelIdeal.main_v0) = v0 c
          ∧ r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
          ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v5) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)
      ∧ m' ((c.tc : Thread Cert.MergeReferenceIdeal.nD Cert.MergeReferenceIdeal.τ).loc Cert.MergeReferenceIdeal.main_arg9) = m ((c.tc : Thread Cert.MergeKernelIdeal.nD Cert.MergeKernelIdeal.τ).loc Cert.MergeKernelIdeal.main_arg9)) →
    ∃ (v0 : (c : Dev Cert.MergeKernelIdeal.nD) → Buf (Elt Ideal) ((c.tc : Thread Cert.MergeKernelIdeal.nD Cert.MergeKernelIdeal.τ).loc Cert.MergeKernelIdeal.main_v0_0)) (v1 : (c : Dev Cert.MergeKernelIdeal.nD) → Buf (Elt Ideal) ((c.tc : Thread Cert.MergeKernelIdeal.nD Cert.MergeKernelIdeal.τ).loc Cert.MergeKernelIdeal.main_v0_1)) (v2 : (c : Dev Cert.MergeKernelIdeal.nD) → Buf (Elt Ideal) ((c.tc : Thread Cert.MergeKernelIdeal.nD Cert.MergeKernelIdeal.τ).loc Cert.MergeKernelIdeal.main_v0_2)) (v3 : (c : Dev Cert.MergeKernelIdeal.nD) → Buf (Elt Ideal) ((c.tc : Thread Cert.MergeKernelIdeal.nD Cert.MergeKernelIdeal.τ).loc Cert.MergeKernelIdeal.main_v0_3)) (v4 : (c : Dev Cert.MergeKernelIdeal.nD) → Buf (Elt Ideal) ((c.tc : Thread Cert.MergeKernelIdeal.nD Cert.MergeKernelIdeal.τ).loc Cert.MergeKernelIdeal.main_v0_4)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v0_0) = v0 c
          ∧ r.2.mem ((c.tc : Thread Cert.MergeKernelIdeal.nD Cert.MergeKernelIdeal.τ).loc Cert.MergeKernelIdeal.main_v0_1) = v1 c
          ∧ r.2.mem ((c.tc : Thread Cert.MergeKernelIdeal.nD Cert.MergeKernelIdeal.τ).loc Cert.MergeKernelIdeal.main_v0_2) = v2 c
          ∧ r.2.mem ((c.tc : Thread Cert.MergeKernelIdeal.nD Cert.MergeKernelIdeal.τ).loc Cert.MergeKernelIdeal.main_v0_3) = v3 c
          ∧ r.2.mem ((c.tc : Thread Cert.MergeKernelIdeal.nD Cert.MergeKernelIdeal.τ).loc Cert.MergeKernelIdeal.main_v0_4) = v4 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
          ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v18) = v0 c
          ∧ r.2.mem ((c.tc : Thread Cert.MergeReferenceIdeal.nD Cert.MergeReferenceIdeal.τ).loc Cert.MergeReferenceIdeal.main_v19) = v1 c
          ∧ r.2.mem ((c.tc : Thread Cert.MergeReferenceIdeal.nD Cert.MergeReferenceIdeal.τ).loc Cert.MergeReferenceIdeal.main_v20) = v2 c
          ∧ r.2.mem ((c.tc : Thread Cert.MergeReferenceIdeal.nD Cert.MergeReferenceIdeal.τ).loc Cert.MergeReferenceIdeal.main_v21) = v3 c
          ∧ r.2.mem ((c.tc : Thread Cert.MergeReferenceIdeal.nD Cert.MergeReferenceIdeal.τ).loc Cert.MergeReferenceIdeal.main_v22) = v4 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def preserves_MidKernel_MidKernelIdeal : Prop :=
  True

def algebraic_MidKernelIdeal_MidReferenceIdeal_pre_finite_scores [hMidKernelIdeal : Cert.MidKernelIdeal.Facts] [hMidReferenceIdeal : Cert.MidReferenceIdeal.Facts] [hPre_finite_scores : Cert.Pre_finite_scores.Facts] : Prop :=
  ∀ (m : (ℓ : Loc Cert.MidKernelIdeal.nD Cert.MidKernelIdeal.τ Cert.MidKernelIdeal.sig) → Buf (Elt Ideal) ℓ) (g : Dev Cert.MidKernelIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidKernelIdeal_finite_scores m →
    (∀ c : Dev Cert.MidKernelIdeal.nD,
      m' ((c.tc : Thread Cert.MidReferenceIdeal.nD Cert.MidReferenceIdeal.τ).loc Cert.MidReferenceIdeal.main_arg0) = m ((c.tc : Thread Cert.MidKernelIdeal.nD Cert.MidKernelIdeal.τ).loc Cert.MidKernelIdeal.main_arg0)
      ∧ m' ((c.tc : Thread Cert.MidReferenceIdeal.nD Cert.MidReferenceIdeal.τ).loc Cert.MidReferenceIdeal.main_arg1) = m ((c.tc : Thread Cert.MidKernelIdeal.nD Cert.MidKernelIdeal.τ).loc Cert.MidKernelIdeal.main_arg1)
      ∧ m' ((c.tc : Thread Cert.MidReferenceIdeal.nD Cert.MidReferenceIdeal.τ).loc Cert.MidReferenceIdeal.main_arg2) = m ((c.tc : Thread Cert.MidKernelIdeal.nD Cert.MidKernelIdeal.τ).loc Cert.MidKernelIdeal.main_arg2)
      ∧ m' ((c.tc : Thread Cert.MidReferenceIdeal.nD Cert.MidReferenceIdeal.τ).loc Cert.MidReferenceIdeal.main_arg3) = m ((c.tc : Thread Cert.MidKernelIdeal.nD Cert.MidKernelIdeal.τ).loc Cert.MidKernelIdeal.main_arg3)
      ∧ m' ((c.tc : Thread Cert.MidReferenceIdeal.nD Cert.MidReferenceIdeal.τ).loc Cert.MidReferenceIdeal.main_arg4) = m ((c.tc : Thread Cert.MidKernelIdeal.nD Cert.MidKernelIdeal.τ).loc Cert.MidKernelIdeal.main_arg4)
      ∧ m' ((c.tc : Thread Cert.MidReferenceIdeal.nD Cert.MidReferenceIdeal.τ).loc Cert.MidReferenceIdeal.main_arg5) = m ((c.tc : Thread Cert.MidKernelIdeal.nD Cert.MidKernelIdeal.τ).loc Cert.MidKernelIdeal.main_arg5)
      ∧ m' ((c.tc : Thread Cert.MidReferenceIdeal.nD Cert.MidReferenceIdeal.τ).loc Cert.MidReferenceIdeal.main_arg6) = m ((c.tc : Thread Cert.MidKernelIdeal.nD Cert.MidKernelIdeal.τ).loc Cert.MidKernelIdeal.main_arg6)
      ∧ m' ((c.tc : Thread Cert.MidReferenceIdeal.nD Cert.MidReferenceIdeal.τ).loc Cert.MidReferenceIdeal.main_arg7) = m ((c.tc : Thread Cert.MidKernelIdeal.nD Cert.MidKernelIdeal.τ).loc Cert.MidKernelIdeal.main_arg7)
      ∧ m' ((c.tc : Thread Cert.MidReferenceIdeal.nD Cert.MidReferenceIdeal.τ).loc Cert.MidReferenceIdeal.main_arg8) = m ((c.tc : Thread Cert.MidKernelIdeal.nD Cert.MidKernelIdeal.τ).loc Cert.MidKernelIdeal.main_arg8)
      ∧ m' ((c.tc : Thread Cert.MidReferenceIdeal.nD Cert.MidReferenceIdeal.τ).loc Cert.MidReferenceIdeal.main_arg9) = m ((c.tc : Thread Cert.MidKernelIdeal.nD Cert.MidKernelIdeal.τ).loc Cert.MidKernelIdeal.main_arg9)) →
    ∃ (v0 : (c : Dev Cert.MidKernelIdeal.nD) → Buf (Elt Ideal) ((c.tc : Thread Cert.MidKernelIdeal.nD Cert.MidKernelIdeal.τ).loc Cert.MidKernelIdeal.main_v3_0)) (v1 : (c : Dev Cert.MidKernelIdeal.nD) → Buf (Elt Ideal) ((c.tc : Thread Cert.MidKernelIdeal.nD Cert.MidKernelIdeal.τ).loc Cert.MidKernelIdeal.main_v3_1)),
      θ_run (Cert.MidKernelIdeal.defs (F := Ideal)) (onTc (τ := Cert.MidKernelIdeal.τ) (Cert.MidKernelIdeal.main (F := Ideal))) ⟨m, fun _ => 0, g⟩ (fun r => ∀ c : Dev Cert.MidKernelIdeal.nD,
          r.2.mem ((c.tc : Thread Cert.MidKernelIdeal.nD Cert.MidKernelIdeal.τ).loc Cert.MidKernelIdeal.main_v3_0) = v0 c
          ∧ r.2.mem ((c.tc : Thread Cert.MidKernelIdeal.nD Cert.MidKernelIdeal.τ).loc Cert.MidKernelIdeal.main_v3_1) = v1 c
          ∧ r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
          ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
          ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2)
          ∧ r.2.mem ((c.tc : Thread Cert.MidKernelIdeal.nD Cert.MidKernelIdeal.τ).loc Cert.MidKernelIdeal.main_arg3) = m ((c.tc : Thread Cert.MidKernelIdeal.nD Cert.MidKernelIdeal.τ).loc Cert.MidKernelIdeal.main_arg3)
          ∧ r.2.mem ((c.tc : Thread Cert.MidKernelIdeal.nD Cert.MidKernelIdeal.τ).loc Cert.MidKernelIdeal.main_arg4) = m ((c.tc : Thread Cert.MidKernelIdeal.nD Cert.MidKernelIdeal.τ).loc Cert.MidKernelIdeal.main_arg4)
          ∧ r.2.mem ((c.tc : Thread Cert.MidKernelIdeal.nD Cert.MidKernelIdeal.τ).loc Cert.MidKernelIdeal.main_arg5) = m ((c.tc : Thread Cert.MidKernelIdeal.nD Cert.MidKernelIdeal.τ).loc Cert.MidKernelIdeal.main_arg5)
          ∧ r.2.mem ((c.tc : Thread Cert.MidKernelIdeal.nD Cert.MidKernelIdeal.τ).loc Cert.MidKernelIdeal.main_arg6) = m ((c.tc : Thread Cert.MidKernelIdeal.nD Cert.MidKernelIdeal.τ).loc Cert.MidKernelIdeal.main_arg6)
          ∧ r.2.mem ((c.tc : Thread Cert.MidKernelIdeal.nD Cert.MidKernelIdeal.τ).loc Cert.MidKernelIdeal.main_arg7) = m ((c.tc : Thread Cert.MidKernelIdeal.nD Cert.MidKernelIdeal.τ).loc Cert.MidKernelIdeal.main_arg7)
          ∧ r.2.mem ((c.tc : Thread Cert.MidKernelIdeal.nD Cert.MidKernelIdeal.τ).loc Cert.MidKernelIdeal.main_arg8) = m ((c.tc : Thread Cert.MidKernelIdeal.nD Cert.MidKernelIdeal.τ).loc Cert.MidKernelIdeal.main_arg8)
          ∧ r.2.mem ((c.tc : Thread Cert.MidKernelIdeal.nD Cert.MidKernelIdeal.τ).loc Cert.MidKernelIdeal.main_arg9) = m ((c.tc : Thread Cert.MidKernelIdeal.nD Cert.MidKernelIdeal.τ).loc Cert.MidKernelIdeal.main_arg9))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v59) = v0 c
          ∧ r.2.mem ((c.tc : Thread Cert.MidReferenceIdeal.nD Cert.MidReferenceIdeal.τ).loc Cert.MidReferenceIdeal.main_v73) = v1 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3)
          ∧ r.2.mem ((c.tc : Thread Cert.MidReferenceIdeal.nD Cert.MidReferenceIdeal.τ).loc Cert.MidReferenceIdeal.main_arg4) = m' ((c.tc : Thread Cert.MidReferenceIdeal.nD Cert.MidReferenceIdeal.τ).loc Cert.MidReferenceIdeal.main_arg4)
          ∧ r.2.mem ((c.tc : Thread Cert.MidReferenceIdeal.nD Cert.MidReferenceIdeal.τ).loc Cert.MidReferenceIdeal.main_arg5) = m' ((c.tc : Thread Cert.MidReferenceIdeal.nD Cert.MidReferenceIdeal.τ).loc Cert.MidReferenceIdeal.main_arg5)
          ∧ r.2.mem ((c.tc : Thread Cert.MidReferenceIdeal.nD Cert.MidReferenceIdeal.τ).loc Cert.MidReferenceIdeal.main_arg6) = m' ((c.tc : Thread Cert.MidReferenceIdeal.nD Cert.MidReferenceIdeal.τ).loc Cert.MidReferenceIdeal.main_arg6)
          ∧ r.2.mem ((c.tc : Thread Cert.MidReferenceIdeal.nD Cert.MidReferenceIdeal.τ).loc Cert.MidReferenceIdeal.main_arg7) = m' ((c.tc : Thread Cert.MidReferenceIdeal.nD Cert.MidReferenceIdeal.τ).loc Cert.MidReferenceIdeal.main_arg7)
          ∧ r.2.mem ((c.tc : Thread Cert.MidReferenceIdeal.nD Cert.MidReferenceIdeal.τ).loc Cert.MidReferenceIdeal.main_arg8) = m' ((c.tc : Thread Cert.MidReferenceIdeal.nD Cert.MidReferenceIdeal.τ).loc Cert.MidReferenceIdeal.main_arg8)
          ∧ r.2.mem ((c.tc : Thread Cert.MidReferenceIdeal.nD Cert.MidReferenceIdeal.τ).loc Cert.MidReferenceIdeal.main_arg9) = m' ((c.tc : Thread Cert.MidReferenceIdeal.nD Cert.MidReferenceIdeal.τ).loc Cert.MidReferenceIdeal.main_arg9))

def Claim : Prop :=
  ∃ (hKernel : Cert.Kernel.Facts) (hKernelIdeal : Cert.KernelIdeal.Facts) (hUpKernel : Cert.UpKernel.Facts) (hUpKernelIdeal : Cert.UpKernelIdeal.Facts) (hUpReferenceIdeal : Cert.UpReferenceIdeal.Facts) (hDownKernel : Cert.DownKernel.Facts) (hDownKernelIdeal : Cert.DownKernelIdeal.Facts) (hDownReferenceIdeal : Cert.DownReferenceIdeal.Facts) (hQkvKernel : Cert.QkvKernel.Facts) (hQkvKernelIdeal : Cert.QkvKernelIdeal.Facts) (hQkvReferenceIdeal : Cert.QkvReferenceIdeal.Facts) (hMergeKernel : Cert.MergeKernel.Facts) (hMergeKernelIdeal : Cert.MergeKernelIdeal.Facts) (hMergeReferenceIdeal : Cert.MergeReferenceIdeal.Facts) (hMidKernel : Cert.MidKernel.Facts) (hMidKernelIdeal : Cert.MidKernelIdeal.Facts) (hMidReferenceIdeal : Cert.MidReferenceIdeal.Facts) (hPre_finite_gate : Cert.Pre_finite_gate.Facts) (hPre_finite_scores : Cert.Pre_finite_scores.Facts),
    quiescent_Kernel (hKernel := hKernel)
    ∧ quiescent_KernelIdeal (hKernelIdeal := hKernelIdeal)
    ∧ quiescent_UpKernel (hUpKernel := hUpKernel)
    ∧ quiescent_UpKernelIdeal (hUpKernelIdeal := hUpKernelIdeal)
    ∧ quiescent_UpKernelIdeal_pre_finite_gate (hUpKernelIdeal := hUpKernelIdeal) (hPre_finite_gate := hPre_finite_gate)
    ∧ quiescent_UpReferenceIdeal (hUpReferenceIdeal := hUpReferenceIdeal)
    ∧ quiescent_UpReferenceIdeal_pre_finite_gate (hUpReferenceIdeal := hUpReferenceIdeal) (hPre_finite_gate := hPre_finite_gate)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_QkvKernel (hQkvKernel := hQkvKernel)
    ∧ quiescent_QkvKernelIdeal (hQkvKernelIdeal := hQkvKernelIdeal)
    ∧ quiescent_QkvReferenceIdeal (hQkvReferenceIdeal := hQkvReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_MidKernel (hMidKernel := hMidKernel)
    ∧ quiescent_MidKernelIdeal (hMidKernelIdeal := hMidKernelIdeal)
    ∧ quiescent_MidKernelIdeal_pre_finite_scores (hMidKernelIdeal := hMidKernelIdeal) (hPre_finite_scores := hPre_finite_scores)
    ∧ quiescent_MidReferenceIdeal (hMidReferenceIdeal := hMidReferenceIdeal)
    ∧ quiescent_MidReferenceIdeal_pre_finite_scores (hMidReferenceIdeal := hMidReferenceIdeal) (hPre_finite_scores := hPre_finite_scores)
    ∧ preserves_Kernel_KernelIdeal
    ∧ preserves_UpKernel_UpKernelIdeal
    ∧ algebraic_UpKernelIdeal_UpReferenceIdeal_pre_finite_gate (hUpKernelIdeal := hUpKernelIdeal) (hUpReferenceIdeal := hUpReferenceIdeal) (hPre_finite_gate := hPre_finite_gate)
    ∧ preserves_DownKernel_DownKernelIdeal
    ∧ algebraic_DownKernelIdeal_DownReferenceIdeal (hDownKernelIdeal := hDownKernelIdeal) (hDownReferenceIdeal := hDownReferenceIdeal)
    ∧ preserves_QkvKernel_QkvKernelIdeal
    ∧ algebraic_QkvKernelIdeal_QkvReferenceIdeal (hQkvKernelIdeal := hQkvKernelIdeal) (hQkvReferenceIdeal := hQkvReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_MidKernel_MidKernelIdeal
    ∧ algebraic_MidKernelIdeal_MidReferenceIdeal_pre_finite_scores (hMidKernelIdeal := hMidKernelIdeal) (hMidReferenceIdeal := hMidReferenceIdeal) (hPre_finite_scores := hPre_finite_scores)
-- ==== Pre_finite_gate.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S_ : Shape := ⟨0, ![]⟩

class Facts : Prop where
  bitsLt_bf16_f32 : FTy.bits .bf16 < FTy.bits .f32
  bcast_S_S8192x5632 : S_.BroadcastsInDim S8192x5632 (![] : Fin 0 → Fin S8192x5632.rank)
  dot_S8192x2048_S2048x5632_S8192x5632_1_0_0_1_n_n_wf : DotDims.WF S8192x2048 S2048x5632 S8192x5632 [1] [0] [0] [1] [] []

variable [Facts]

def dot_S8192x2048_S2048x5632_S8192x5632_1_0_0_1_n_n : DotDims S8192x2048 S2048x5632 S8192x5632 where
  lhsContracting := [1]
  rhsContracting := [0]
  lhsNonContracting := [0]
  rhsNonContracting := [1]
  lhsBatch := []
  rhsBatch := []
  wf := dot_S8192x2048_S2048x5632_S8192x5632_1_0_0_1_n_n_wf
def fn {F : FTy → Type} [FloatOps F] (main_arg0 : FVec F S8192x2048 .bf16) (main_arg1 : FVec F S2048x5632 .f32) (main_arg2 : FVec F S2048x5632 .f32) (main_arg3 : FVec F S5632x2048 .f32) : IVec S8192x5632 1 :=
  let main_v0 : FVec F S8192x2048 .f32 := (extf .f32 · bitsLt_bf16_f32) main_arg0
  let main_v1 : FVec F S8192x5632 .f32 := (fun l r => Host.dotGeneral dot_S8192x2048_S2048x5632_S8192x5632_1_0_0_1_n_n none l r) main_v0 main_arg1
  let main_v2 : FVec F S8192x5632 .f32 := Host.absf main_v1
  let main_cst : FVec F S_ .f32 := constant S_ .f32 0x7F800000#32
  let main_v3 : FVec F S8192x5632 .f32 := broadcastInDim S8192x5632 ![] bcast_S_S8192x5632 main_cst
  let main_v4 : IVec S8192x5632 1 := cmpf .olt main_v2 main_v3
  main_v4
-- ==== Pre_finite_scores.lean ====
abbrev S4x2048x2048 : Shape := ⟨3, ![4, 2048, 2048]⟩
abbrev S4x256x2048 : Shape := ⟨3, ![4, 256, 2048]⟩
abbrev S2048x2048 : Shape := ⟨2, ![2048, 2048]⟩
abbrev S2048x512 : Shape := ⟨2, ![2048, 512]⟩
abbrev S2048x1024 : Shape := ⟨2, ![2048, 1024]⟩
abbrev S512x2048 : Shape := ⟨2, ![512, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x512 : Shape := ⟨3, ![4, 2048, 512]⟩
abbrev S4x2048x4x128 : Shape := ⟨4, ![4, 2048, 4, 128]⟩
abbrev S4x256 : Shape := ⟨2, ![4, 256]⟩
abbrev S4x256x1 : Shape := ⟨3, ![4, 256, 1]⟩
abbrev S4x256x1024 : Shape := ⟨3, ![4, 256, 1024]⟩
abbrev S4x256x2x4x128 : Shape := ⟨5, ![4, 256, 2, 4, 128]⟩
abbrev S4x256x1x4x128 : Shape := ⟨5, ![4, 256, 1, 4, 128]⟩
abbrev S4x256x4x128 : Shape := ⟨4, ![4, 256, 4, 128]⟩
abbrev S4x4x2048x256 : Shape := ⟨4, ![4, 4, 2048, 256]⟩

class Facts : Prop where
  bitsLt_bf16_f32 : FTy.bits .bf16 < FTy.bits .f32
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  shapeCasts_S4x2048x512_S4x2048x4x128 : S4x2048x512.ShapeCasts S4x2048x4x128
  reducesTo_S4x256x2048_S4x256_d2 : S4x256x2048.ReducesTo [2] S4x256
  bcast_S4x256_S4x256x1_0_1 : S4x256.BroadcastsInDim S4x256x1 (![0, 1] : Fin 2 → Fin S4x256x1.rank)
  bcast_S_S4x256x1 : S_.BroadcastsInDim S4x256x1 (![] : Fin 0 → Fin S4x256x1.rank)
  bcast_S4x256x1_S4x256x2048_0_1_2 : S4x256x1.BroadcastsInDim S4x256x2048 (![0, 1, 2] : Fin 3 → Fin S4x256x2048.rank)
  bcast_S1x1x2048_S4x256x2048_0_1_2 : S1x1x2048.BroadcastsInDim S4x256x2048 (![0, 1, 2] : Fin 3 → Fin S4x256x2048.rank)
  shapeCasts_S4x256x1024_S4x256x2x4x128 : S4x256x1024.ShapeCasts S4x256x2x4x128
  slices_S4x256x2x4x128_S4x256x1x4x128_0_0_0_0_0 : S4x256x2x4x128.Slices ![0, 0, 0, 0, 0] S4x256x1x4x128
  shapeCasts_S4x256x1x4x128_S4x256x4x128 : S4x256x1x4x128.ShapeCasts S4x256x4x128
  bcast_S_S4x4x2048x256 : S_.BroadcastsInDim S4x4x2048x256 (![] : Fin 0 → Fin S4x4x2048x256.rank)
  dot_S4x2048x2048_S2048x2048_S4x2048x2048_2_0_01_1_n_n_wf : DotDims.WF S4x2048x2048 S2048x2048 S4x2048x2048 [2] [0] [0, 1] [1] [] []
  dot_S4x2048x2048_S2048x512_S4x2048x512_2_0_01_1_n_n_wf : DotDims.WF S4x2048x2048 S2048x512 S4x2048x512 [2] [0] [0, 1] [1] [] []
  dot_S4x256x2048_S2048x1024_S4x256x1024_2_0_01_1_n_n_wf : DotDims.WF S4x256x2048 S2048x1024 S4x256x1024 [2] [0] [0, 1] [1] [] []
  dot_S4x2048x4x128_S4x256x4x128_S4x4x2048x256_3_3_1_1_02_02_wf : DotDims.WF S4x2048x4x128 S4x256x4x128 S4x4x2048x256 [3] [3] [1] [1] [0, 2] [0, 2]

variable [Facts]

def dot_S4x2048x2048_S2048x2048_S4x2048x2048_2_0_01_1_n_n : DotDims S4x2048x2048 S2048x2048 S4x2048x2048 where
  lhsContracting := [2]
  rhsContracting := [0]
  lhsNonContracting := [0, 1]
  rhsNonContracting := [1]
  lhsBatch := []
  rhsBatch := []
  wf := dot_S4x2048x2048_S2048x2048_S4x2048x2048_2_0_01_1_n_n_wf
def dot_S4x2048x2048_S2048x512_S4x2048x512_2_0_01_1_n_n : DotDims S4x2048x2048 S2048x512 S4x2048x512 where
  lhsContracting := [2]
  rhsContracting := [0]
  lhsNonContracting := [0, 1]
  rhsNonContracting := [1]
  lhsBatch := []
  rhsBatch := []
  wf := dot_S4x2048x2048_S2048x512_S4x2048x512_2_0_01_1_n_n_wf
def dot_S4x256x2048_S2048x1024_S4x256x1024_2_0_01_1_n_n : DotDims S4x256x2048 S2048x1024 S4x256x1024 where
  lhsContracting := [2]
  rhsContracting := [0]
  lhsNonContracting := [0, 1]
  rhsNonContracting := [1]
  lhsBatch := []
  rhsBatch := []
  wf := dot_S4x256x2048_S2048x1024_S4x256x1024_2_0_01_1_n_n_wf
def dot_S4x2048x4x128_S4x256x4x128_S4x4x2048x256_3_3_1_1_02_02 : DotDims S4x2048x4x128 S4x256x4x128 S4x4x2048x256 where
  lhsContracting := [3]
  rhsContracting := [3]
  lhsNonContracting := [1]
  rhsNonContracting := [1]
  lhsBatch := [0, 2]
  rhsBatch := [0, 2]
  wf := dot_S4x2048x4x128_S4x256x4x128_S4x4x2048x256_3_3_1_1_02_02_wf
def fn_part2 {F : FTy → Type} [FloatOps F] (main_v40 : FVec F S4x4x2048x256 .f32) : IVec S4x4x2048x256 1 :=
  let main_v41 : FVec F S4x4x2048x256 .f32 := Host.absf main_v40
  let main_cst_6 : FVec F S_ .f32 := constant S_ .f32 0x7F800000#32
  let main_v42 : FVec F S4x4x2048x256 .f32 := broadcastInDim S4x4x2048x256 ![] bcast_S_S4x4x2048x256 main_cst_6
  let main_v43 : IVec S4x4x2048x256 1 := cmpf .olt main_v41 main_v42
  main_v43

def fn_part1 {F : FTy → Type} [FloatOps F] (main_arg2 : FVec F S4x256x2048 .f32) (main_arg5 : FVec F S2048x1024 .bf16) (main_arg8 : FVec F S2048 .f32) (main_v19 : FVec F S4x2048x4x128 .f32) (main_v20 : FVec F S4x256x2048 .f32) : IVec S4x4x2048x256 1 :=
  let main_cst_2 : FVec F S_ .f32 := constant S_ .f32 0x00000000#32
  let main_v21 : FVec F S4x256 .f32 := (fun x v => Host.reduceAdd x v reducesTo_S4x256x2048_S4x256_d2 h_S_) main_v20 main_cst_2
  let main_v22 : FVec F S4x256x1 .f32 := broadcastInDim S4x256x1 ![0, 1] bcast_S4x256_S4x256x1_0_1 main_v21
  let main_cst_3 : FVec F S_ .f32 := constant S_ .f32 0x45000000#32
  let main_v23 : FVec F S4x256x1 .f32 := broadcastInDim S4x256x1 ![] bcast_S_S4x256x1 main_cst_3
  let main_v24 : FVec F S4x256x1 .f32 := Host.divf main_v22 main_v23
  let main_cst_4 : FVec F S_ .f32 := constant S_ .f32 0x358637BD#32
  let main_v25 : FVec F S4x256x1 .f32 := broadcastInDim S4x256x1 ![] bcast_S_S4x256x1 main_cst_4
  let main_v26 : FVec F S4x256x1 .f32 := addf main_v24 main_v25
  let main_v27 : FVec F S4x256x1 .f32 := Host.rsqrt main_v26
  let main_v28 : FVec F S4x256x2048 .f32 := broadcastInDim S4x256x2048 ![0, 1, 2] bcast_S4x256x1_S4x256x2048_0_1_2 main_v27
  let main_v29 : FVec F S4x256x2048 .f32 := mulf main_arg2 main_v28
  let main_v30 : FVec F S1x1x2048 .f32 := broadcastInDim S1x1x2048 ![2] bcast_S2048_S1x1x2048_2 main_arg8
  let main_v31 : FVec F S4x256x2048 .f32 := broadcastInDim S4x256x2048 ![0, 1, 2] bcast_S1x1x2048_S4x256x2048_0_1_2 main_v30
  let main_v32 : FVec F S4x256x2048 .f32 := mulf main_v29 main_v31
  let main_v33 : FVec F S2048x1024 .f32 := (extf .f32 · bitsLt_bf16_f32) main_arg5
  let main_v34 : FVec F S4x256x1024 .f32 := (fun l r => Host.dotGeneral dot_S4x256x2048_S2048x1024_S4x256x1024_2_0_01_1_n_n none l r) main_v32 main_v33
  let main_v35 : FVec F S4x256x2x4x128 .f32 := shapeCast S4x256x2x4x128 main_v34 shapeCasts_S4x256x1024_S4x256x2x4x128
  let main_v36 : FVec F S4x256x1x4x128 .f32 := (extractStridedSlice S4x256x1x4x128 ![0, 0, 0, 0, 0] · slices_S4x256x2x4x128_S4x256x1x4x128_0_0_0_0_0) main_v35
  let main_v37 : FVec F S4x256x4x128 .f32 := shapeCast S4x256x4x128 main_v36 shapeCasts_S4x256x1x4x128_S4x256x4x128
  let main_v38 : FVec F S4x4x2048x256 .f32 := (fun l r => Host.dotGeneral dot_S4x2048x4x128_S4x256x4x128_S4x4x2048x256_3_3_1_1_02_02 none l r) main_v19 main_v37
  let main_cst_5 : FVec F S_ .f32 := constant S_ .f32 0x3DB504F3#32
  let main_v39 : FVec F S4x4x2048x256 .f32 := broadcastInDim S4x4x2048x256 ![] bcast_S_S4x4x2048x256 main_cst_5
  let main_v40 : FVec F S4x4x2048x256 .f32 := mulf main_v38 main_v39
  fn_part2 (F := F) main_v40

def fn {F : FTy → Type} [FloatOps F] (main_arg0 : FVec F S4x2048x2048 .bf16) (main_arg1 : FVec F S4x2048x2048 .f32) (main_arg2 : FVec F S4x256x2048 .f32) (main_arg3 : FVec F S2048x2048 .bf16) (main_arg4 : FVec F S2048x512 .bf16) (main_arg5 : FVec F S2048x1024 .bf16) (main_arg6 : FVec F S512x2048 .bf16) (main_arg7 : FVec F S2048 .f32) (main_arg8 : FVec F S2048 .f32) (main_arg9 : FVec F S2048 .f32) : IVec S4x4x2048x256 1 :=
  let main_v0 : FVec F S4x2048x2048 .f32 := (extf .f32 · bitsLt_bf16_f32) main_arg0
  let main_v1 : FVec F S2048x2048 .f32 := (extf .f32 · bitsLt_bf16_f32) main_arg3
  let main_v2 : FVec F S4x2048x2048 .f32 := (fun l r => Host.dotGeneral dot_S4x2048x2048_S2048x2048_S4x2048x2048_2_0_01_1_n_n none l r) main_v0 main_v1
  let main_v3 : FVec F S4x2048x2048 .f32 := addf main_arg1 main_v2
  let main_v4 : FVec F S4x2048x2048 .f32 := mulf main_v3 main_v3
  let main_cst : FVec F S_ .f32 := constant S_ .f32 0x00000000#32
  let main_v5 : FVec F S4x2048 .f32 := (fun x v => Host.reduceAdd x v reducesTo_S4x2048x2048_S4x2048_d2 h_S_) main_v4 main_cst
  let main_v6 : FVec F S4x2048x1 .f32 := broadcastInDim S4x2048x1 ![0, 1] bcast_S4x2048_S4x2048x1_0_1 main_v5
  let main_cst_0 : FVec F S_ .f32 := constant S_ .f32 0x45000000#32
  let main_v7 : FVec F S4x2048x1 .f32 := broadcastInDim S4x2048x1 ![] bcast_S_S4x2048x1 main_cst_0
  let main_v8 : FVec F S4x2048x1 .f32 := Host.divf main_v6 main_v7
  let main_cst_1 : FVec F S_ .f32 := constant S_ .f32 0x358637BD#32
  let main_v9 : FVec F S4x2048x1 .f32 := broadcastInDim S4x2048x1 ![] bcast_S_S4x2048x1 main_cst_1
  let main_v10 : FVec F S4x2048x1 .f32 := addf main_v8 main_v9
  let main_v11 : FVec F S4x2048x1 .f32 := Host.rsqrt main_v10
  let main_v12 : FVec F S4x2048x2048 .f32 := broadcastInDim S4x2048x2048 ![0, 1, 2] bcast_S4x2048x1_S4x2048x2048_0_1_2 main_v11
  let main_v13 : FVec F S4x2048x2048 .f32 := mulf main_v3 main_v12
  let main_v14 : FVec F S1x1x2048 .f32 := broadcastInDim S1x1x2048 ![2] bcast_S2048_S1x1x2048_2 main_arg7
  let main_v15 : FVec F S4x2048x2048 .f32 := broadcastInDim S4x2048x2048 ![0, 1, 2] bcast_S1x1x2048_S4x2048x2048_0_1_2 main_v14
  let main_v16 : FVec F S4x2048x2048 .f32 := mulf main_v13 main_v15
  let main_v17 : FVec F S2048x512 .f32 := (extf .f32 · bitsLt_bf16_f32) main_arg4
  let main_v18 : FVec F S4x2048x512 .f32 := (fun l r => Host.dotGeneral dot_S4x2048x2048_S2048x512_S4x2048x512_2_0_01_1_n_n none l r) main_v16 main_v17
  let main_v19 : FVec F S4x2048x4x128 .f32 := shapeCast S4x2048x4x128 main_v18 shapeCasts_S4x2048x512_S4x2048x4x128
  let main_v20 : FVec F S4x256x2048 .f32 := mulf main_arg2 main_arg2
  fn_part1 (F := F) main_arg2 main_arg5 main_arg8 main_v19 main_v20
-- ==== Kernel.lean ====
abbrev S36x8192x128 : Shape := ⟨3, ![36, 8192, 128]⟩
abbrev S8x8192x128 : Shape := ⟨3, ![8, 8192, 128]⟩
abbrev S3x128x1024 : Shape := ⟨3, ![3, 128, 1024]⟩
abbrev S4x2048x512 : Shape := ⟨3, ![4, 2048, 512]⟩
abbrev S4x2048x1024 : Shape := ⟨3, ![4, 2048, 1024]⟩
abbrev S1x2048x128 : Shape := ⟨3, ![1, 2048, 128]⟩
abbrev S8x512x128 : Shape := ⟨3, ![8, 512, 128]⟩
abbrev S3x8x1024 : Shape := ⟨3, ![3, 8, 1024]⟩
abbrev S1x512x1024 : Shape := ⟨3, ![1, 512, 1024]⟩
abbrev S6x2048x128 : Shape := ⟨3, ![6, 2048, 128]⟩
abbrev S3x2048x128 : Shape := ⟨3, ![3, 2048, 128]⟩
abbrev S8x128x128 : Shape := ⟨3, ![8, 128, 128]⟩
abbrev S128x256 : Shape := ⟨2, ![128, 256]⟩
abbrev S128x128 : Shape := ⟨2, ![128, 128]⟩
abbrev S64x64 : Shape := ⟨2, ![64, 64]⟩
abbrev S2048x128 : Shape := ⟨2, ![2048, 128]⟩
abbrev S1x128x128 : Shape := ⟨3, ![1, 128, 128]⟩
abbrev S1x1x128 : Shape := ⟨3, ![1, 1, 128]⟩
abbrev S1x128 : Shape := ⟨2, ![1, 128]⟩
abbrev S1x64x128 : Shape := ⟨3, ![1, 64, 128]⟩
abbrev S64x128 : Shape := ⟨2, ![64, 128]⟩
abbrev S192x128 : Shape := ⟨2, ![192, 128]⟩
abbrev S64x192 : Shape := ⟨2, ![64, 192]⟩
abbrev S64 : Shape := ⟨1, ![64]⟩
abbrev S64x1 : Shape := ⟨2, ![64, 1]⟩
abbrev S1x256x128 : Shape := ⟨3, ![1, 256, 128]⟩
abbrev S256x128 : Shape := ⟨2, ![256, 128]⟩
abbrev S128 : Shape := ⟨1, ![128]⟩
abbrev S128x1 : Shape := ⟨2, ![128, 1]⟩

abbrev nBuf : Space → Nat
  | .hbm => 8
  | .vmem => 36
  | .smem => 0
  | _ => 0

abbrev bufTy : (tb : Table) → Fin (tcTables nBuf tb) → BufTy
  | .hbm, ⟨0, _⟩ => ⟨S36x8192x128, .bf16⟩
  | .hbm, ⟨1, _⟩ => ⟨S8x8192x128, .bf16⟩
  | .hbm, ⟨2, _⟩ => ⟨S8x8192x128, .bf16⟩
  | .hbm, ⟨3, _⟩ => ⟨S8x8192x128, .bf16⟩
  | .hbm, ⟨4, _⟩ => ⟨S8x8192x128, .bf16⟩
  | .hbm, ⟨5, _⟩ => ⟨S3x128x1024, .f32⟩
  | .hbm, ⟨6, _⟩ => ⟨S4x2048x512, .bf16⟩
  | .hbm, ⟨7, _⟩ => ⟨S4x2048x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x2048x128, .bf16⟩
  | .local _ .vmem, ⟨17, _⟩ => ⟨S1x2048x128, .bf16⟩
  | .local _ .vmem, ⟨18, _⟩ => ⟨S8x512x128, .bf16⟩
  | .local _ .vmem, ⟨19, _⟩ => ⟨S8x512x128, .bf16⟩
  | .local _ .vmem, ⟨20, _⟩ => ⟨S8x512x128, .bf16⟩
  | .local _ .vmem, ⟨21, _⟩ => ⟨S8x512x128, .bf16⟩
  | .local _ .vmem, ⟨22, _⟩ => ⟨S8x512x128, .bf16⟩
  | .local _ .vmem, ⟨23, _⟩ => ⟨S8x512x128, .bf16⟩
  | .local _ .vmem, ⟨24, _⟩ => ⟨S8x512x128, .bf16⟩
  | .local _ .vmem, ⟨25, _⟩ => ⟨S8x512x128, .bf16⟩
  | .local _ .vmem, ⟨26, _⟩ => ⟨S3x8x1024, .f32⟩
  | .local _ .vmem, ⟨27, _⟩ => ⟨S3x8x1024, .f32⟩
  | .local _ .vmem, ⟨28, _⟩ => ⟨S1x2048x128, .bf16⟩
  | .local _ .vmem, ⟨29, _⟩ => ⟨S1x2048x128, .bf16⟩
  | .local _ .vmem, ⟨30, _⟩ => ⟨S1x512x1024, .bf16⟩
  | .local _ .vmem, ⟨31, _⟩ => ⟨S1x512x1024, .bf16⟩
  | .local _ .vmem, ⟨32, _⟩ => ⟨S6x2048x128, .f32⟩
  | .local _ .vmem, ⟨33, _⟩ => ⟨S3x2048x128, .f32⟩
  | .local _ .vmem, ⟨34, _⟩ => ⟨S3x2048x128, .f32⟩
  | .local _ .vmem, ⟨35, _⟩ => ⟨S8x128x128, .f32⟩
  | _, _ => ⟨S36x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![v0.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![v0.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  let c0_i32_0 : BitVec 32 := 0#32
  ![v0.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![v0.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![v0.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![v0.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S3x8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2048x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== KernelIdeal.lean ====
variable {F : FTy → Type} [FloatOps F] [Named F]
def κ : String → Option EReal := fun
  | "scale" => some (((Real.sqrt 128)⁻¹ : ℝ) : EReal)
  | "scale_log2_e" => some (((Real.sqrt 128)⁻¹ * (Real.log 2)⁻¹ : ℝ) : EReal)
  | _ => none
-- ==== UpKernel.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S2048x2048 : Shape := ⟨2, ![2048, 2048]⟩
abbrev S2048x512 : Shape := ⟨2, ![2048, 512]⟩
abbrev S128x2048 : Shape := ⟨2, ![128, 2048]⟩
abbrev S256x2048 : Shape := ⟨2, ![256, 2048]⟩
abbrev S256x512 : Shape := ⟨2, ![256, 512]⟩

abbrev nBuf : Space → Nat
  | .hbm => 6
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S8192x5632, .bf16⟩
  | .hbm, ⟨5, _⟩ => ⟨S5632x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S128x2048, .f32⟩
  | .local _ .vmem, ⟨7, _⟩ => ⟨S128x2048, .f32⟩
  | .local _ .vmem, ⟨8, _⟩ => ⟨S2048x512, .bf16⟩
  | .local _ .vmem, ⟨9, _⟩ => ⟨S2048x512, .bf16⟩
  | .local _ .vmem, ⟨10, _⟩ => ⟨S128x2048, .bf16⟩
  | .local _ .vmem, ⟨11, _⟩ => ⟨S128x2048, .bf16⟩
  | .local _ .vmem, ⟨12, _⟩ => ⟨S2048x512, .bf16⟩
  | .local _ .vmem, ⟨13, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpReferenceIdeal.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S8192x2048, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .bf16⟩
  | .hbm, ⟨18, _⟩ => ⟨S5632x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== DownKernel.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S1x2048 : Shape := ⟨2, ![1, 2048]⟩
abbrev S512x5632 : Shape := ⟨2, ![512, 5632]⟩
abbrev S512x2048 : Shape := ⟨2, ![512, 2048]⟩
abbrev S256x5632 : Shape := ⟨2, ![256, 5632]⟩
abbrev S256x512 : Shape := ⟨2, ![256, 512]⟩
abbrev S5632x512 : Shape := ⟨2, ![5632, 512]⟩
abbrev S256 : Shape := ⟨1, ![256]⟩
abbrev S256x1 : Shape := ⟨2, ![256, 1]⟩
abbrev S1x512 : Shape := ⟨2, ![1, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S2048, .f32⟩
  | .hbm, ⟨4, _⟩ => ⟨S1x2048, .f32⟩
  | .hbm, ⟨5, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DownReferenceIdeal.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S2048, .f32⟩
  | .hbm, ⟨4, _⟩ => ⟨S8192x5632, .f32⟩
  | .hbm, ⟨5, _⟩ => ⟨S5632x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== QkvKernel.lean ====
abbrev S8192x2048 : Shape := ⟨2, ![8192, 2048]⟩
abbrev S2048x12800 : Shape := ⟨2, ![2048, 12800]⟩
abbrev S36x8192x128 : Shape := ⟨3, ![36, 8192, 128]⟩
abbrev S2048x2048 : Shape := ⟨2, ![2048, 2048]⟩
abbrev S2048x768 : Shape := ⟨2, ![2048, 768]⟩
abbrev S6x2048x128 : Shape := ⟨3, ![6, 2048, 128]⟩
abbrev S256x2048 : Shape := ⟨2, ![256, 2048]⟩
abbrev S256x768 : Shape := ⟨2, ![256, 768]⟩
abbrev S256x128 : Shape := ⟨2, ![256, 128]⟩
abbrev S1x256x128 : Shape := ⟨3, ![1, 256, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x12800, .f32⟩
  | .hbm, ⟨2, _⟩ => ⟨S36x8192x128, .bf16⟩
  | .local _ .vmem, ⟨0, _⟩ => ⟨S2048x2048, .bf16⟩
  | .local _ .vmem, ⟨1, _⟩ => ⟨S2048x2048, .bf16⟩
  | .local _ .vmem, ⟨2, _⟩ => ⟨S2048x768, .f32⟩
  | .local _ .vmem, ⟨3, _⟩ => ⟨S2048x768, .f32⟩
  | .local _ .vmem, ⟨4, _⟩ => ⟨S6x2048x128, .bf16⟩
  | .local _ .vmem, ⟨5, _⟩ => ⟨S6x2048x128, .bf16⟩
  | .local _ .vmem, ⟨6, _⟩ => ⟨S2048x768, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S6x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvReferenceIdeal.lean ====
abbrev S8192x2048 : Shape := ⟨2, ![8192, 2048]⟩
abbrev S2048x12800 : Shape := ⟨2, ![2048, 12800]⟩
abbrev S2048x4608 : Shape := ⟨2, ![2048, 4608]⟩
abbrev S8192x4608 : Shape := ⟨2, ![8192, 4608]⟩
abbrev S8192x36x128 : Shape := ⟨3, ![8192, 36, 128]⟩
abbrev S36x8192x128 : Shape := ⟨3, ![36, 8192, 128]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x12800, .f32⟩
  | .hbm, ⟨2, _⟩ => ⟨S8192x2048, .f32⟩
  | .hbm, ⟨3, _⟩ => ⟨S2048x4608, .f32⟩
  | .hbm, ⟨4, _⟩ => ⟨S8192x4608, .f32⟩
  | .hbm, ⟨5, _⟩ => ⟨S8192x36x128, .f32⟩
  | .hbm, ⟨6, _⟩ => ⟨S36x8192x128, .f32⟩
  | .hbm, ⟨7, _⟩ => ⟨S36x8192x128, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== MergeKernel.lean ====
abbrev S8192x2048 : Shape := ⟨2, ![8192, 2048]⟩
abbrev S8192x512 : Shape := ⟨2, ![8192, 512]⟩
abbrev S8192x1024 : Shape := ⟨2, ![8192, 1024]⟩
abbrev S2048x12800 : Shape := ⟨2, ![2048, 12800]⟩
abbrev S512x2048 : Shape := ⟨2, ![512, 2048]⟩
abbrev S1024x2048 : Shape := ⟨2, ![1024, 2048]⟩
abbrev S2048x2048 : Shape := ⟨2, ![2048, 2048]⟩
abbrev S2048x512 : Shape := ⟨2, ![2048, 512]⟩
abbrev S2048x1024 : Shape := ⟨2, ![2048, 1024]⟩
abbrev S1024x512 : Shape := ⟨2, ![1024, 512]⟩
abbrev S1024x1024 : Shape := ⟨2, ![1024, 1024]⟩
abbrev S512x512 : Shape := ⟨2, ![512, 512]⟩
abbrev S64x2048 : Shape := ⟨2, ![64, 2048]⟩
abbrev S64x512 : Shape := ⟨2, ![64, 512]⟩
abbrev S64x1024 : Shape := ⟨2, ![64, 1024]⟩
abbrev S16x2048 : Shape := ⟨2, ![16, 2048]⟩
abbrev S256x2048 : Shape := ⟨2, ![256, 2048]⟩
abbrev S256x512 : Shape := ⟨2, ![256, 512]⟩
abbrev S256x1024 : Shape := ⟨2, ![256, 1024]⟩

abbrev nBuf : Space → Nat
  | .hbm => 15
  | .vmem => 36
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S8192x1024, .bf16⟩
  | .hbm, ⟨3, _⟩ => ⟨S2048x12800, .f32⟩
  | .hbm, ⟨4, _⟩ => ⟨S512x2048, .f32⟩
  | .hbm, ⟨5, _⟩ => ⟨S1024x2048, .f32⟩
  | .hbm, ⟨6, _⟩ => ⟨S2048x2048, .f32⟩
  | .hbm, ⟨7, _⟩ => ⟨S2048x512, .f32⟩
  | .hbm, ⟨8, _⟩ => ⟨S2048x1024, .f32⟩
  | .hbm, ⟨9, _⟩ => ⟨S512x2048, .f32⟩
  | .hbm, ⟨10, _⟩ => ⟨S8192x2048, .bf16⟩
  | .hbm, ⟨11, _⟩ => ⟨S2048x2048, .bf16⟩
  | .hbm, ⟨12, _⟩ => ⟨S2048x512, .bf16⟩
  | .hbm, ⟨13, _⟩ => ⟨S2048x1024, .bf16⟩
  | .hbm, ⟨14, _⟩ => ⟨S512x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S512x512, .f32⟩
  | .local _ .vmem, ⟨11, _⟩ => ⟨S512x512, .f32⟩
  | .local _ .vmem, ⟨12, _⟩ => ⟨S1024x512, .f32⟩
  | .local _ .vmem, ⟨13, _⟩ => ⟨S1024x512, .f32⟩
  | .local _ .vmem, ⟨14, _⟩ => ⟨S64x2048, .f32⟩
  | .local _ .vmem, ⟨15, _⟩ => ⟨S64x2048, .f32⟩
  | .local _ .vmem, ⟨16, _⟩ => ⟨S64x512, .f32⟩
  | .local _ .vmem, ⟨17, _⟩ => ⟨S64x512, .f32⟩
  | .local _ .vmem, ⟨18, _⟩ => ⟨S64x1024, .f32⟩
  | .local _ .vmem, ⟨19, _⟩ => ⟨S64x1024, .f32⟩
  | .local _ .vmem, ⟨20, _⟩ => ⟨S16x2048, .f32⟩
  | .local _ .vmem, ⟨21, _⟩ => ⟨S16x2048, .f32⟩
  | .local _ .vmem, ⟨22, _⟩ => ⟨S1024x512, .bf16⟩
  | .local _ .vmem, ⟨23, _⟩ => ⟨S1024x512, .bf16⟩
  | .local _ .vmem, ⟨24, _⟩ => ⟨S64x2048, .bf16⟩
  | .local _ .vmem, ⟨25, _⟩ => ⟨S64x2048, .bf16⟩
  | .local _ .vmem, ⟨26, _⟩ => ⟨S64x512, .bf16⟩
  | .local _ .vmem, ⟨27, _⟩ => ⟨S64x512, .bf16⟩
  | .local _ .vmem, ⟨28, _⟩ => ⟨S64x1024, .bf16⟩
  | .local _ .vmem, ⟨29, _⟩ => ⟨S64x1024, .bf16⟩
  | .local _ .vmem, ⟨30, _⟩ => ⟨S16x2048, .bf16⟩
  | .local _ .vmem, ⟨31, _⟩ => ⟨S16x2048, .bf16⟩
  | .local _ .vmem, ⟨32, _⟩ => ⟨S2048x512, .bf16⟩
  | .local _ .vmem, ⟨33, _⟩ => ⟨S2048x512, .bf16⟩
  | .local _ .vmem, ⟨34, _⟩ => ⟨S512x512, .bf16⟩
  | .local _ .vmem, ⟨35, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi arg0 c17_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi arg0 c21_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S16x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MergeReferenceIdeal.lean ====
abbrev S8192x2048 : Shape := ⟨2, ![8192, 2048]⟩
abbrev S8192x512 : Shape := ⟨2, ![8192, 512]⟩
abbrev S8192x1024 : Shape := ⟨2, ![8192, 1024]⟩
abbrev S2048x12800 : Shape := ⟨2, ![2048, 12800]⟩
abbrev S512x2048 : Shape := ⟨2, ![512, 2048]⟩
abbrev S1024x2048 : Shape := ⟨2, ![1024, 2048]⟩
abbrev S2048x2048 : Shape := ⟨2, ![2048, 2048]⟩
abbrev S2048x512 : Shape := ⟨2, ![2048, 512]⟩
abbrev S2048x1024 : Shape := ⟨2, ![2048, 1024]⟩
abbrev S2048x4096 : Shape := ⟨2, ![2048, 4096]⟩
abbrev S8192x4096 : Shape := ⟨2, ![8192, 4096]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S8192x1024, .bf16⟩
  | .hbm, ⟨3, _⟩ => ⟨S2048x12800, .f32⟩
  | .hbm, ⟨4, _⟩ => ⟨S512x2048, .f32⟩
  | .hbm, ⟨5, _⟩ => ⟨S1024x2048, .f32⟩
  | .hbm, ⟨6, _⟩ => ⟨S2048x2048, .f32⟩
  | .hbm, ⟨7, _⟩ => ⟨S2048x512, .f32⟩
  | .hbm, ⟨8, _⟩ => ⟨S2048x1024, .f32⟩
  | .hbm, ⟨9, _⟩ => ⟨S512x2048, .f32⟩
  | .hbm, ⟨10, _⟩ => ⟨S8192x2048, .f32⟩
  | .hbm, ⟨11, _⟩ => ⟨S2048x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x2048, .f32⟩
  | .hbm, ⟨22, _⟩ => ⟨S8192x2048, .f32⟩
  | .hbm, ⟨23, _⟩ => ⟨S8192x512, .f32⟩
  | .hbm, ⟨24, _⟩ => ⟨S8192x2048, .f32⟩
  | .hbm, ⟨25, _⟩ => ⟨S8192x2048, .f32⟩
  | .hbm, ⟨26, _⟩ => ⟨S8192x1024, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .bf16⟩
  | .hbm, ⟨31, _⟩ => ⟨S2048x2048, .bf16⟩
  | .hbm, ⟨32, _⟩ => ⟨S2048x512, .bf16⟩
  | .hbm, ⟨33, _⟩ => ⟨S2048x1024, .bf16⟩
  | .hbm, ⟨34, _⟩ => ⟨S512x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== MidKernel.lean ====
abbrev S4x2048x2048 : Shape := ⟨3, ![4, 2048, 2048]⟩
abbrev S4x256x2048 : Shape := ⟨3, ![4, 256, 2048]⟩
abbrev S2048x2048 : Shape := ⟨2, ![2048, 2048]⟩
abbrev S2048x512 : Shape := ⟨2, ![2048, 512]⟩
abbrev S2048x1024 : Shape := ⟨2, ![2048, 1024]⟩
abbrev S512x2048 : Shape := ⟨2, ![512, 2048]⟩
abbrev S2048 : Shape := ⟨1, ![2048]⟩
abbrev S1x2048 : Shape := ⟨2, ![1, 2048]⟩
abbrev S1x512x2048 : Shape := ⟨3, ![1, 512, 2048]⟩
abbrev S1x256x2048 : Shape := ⟨3, ![1, 256, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1x256x512 : Shape := ⟨3, ![1, 256, 512]⟩
abbrev S256x512 : Shape := ⟨2, ![256, 512]⟩
abbrev S1x512 : Shape := ⟨2, ![1, 512]⟩
abbrev S256x128 : Shape := ⟨2, ![256, 128]⟩
abbrev S256x256 : Shape := ⟨2, ![256, 256]⟩
abbrev S512x512 : Shape := ⟨2, ![512, 512]⟩

abbrev nBuf : Space → Nat
  | .hbm => 15
  | .vmem => 18
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x2048, .f32⟩
  | .hbm, ⟨2, _⟩ => ⟨S4x256x2048, .f32⟩
  | .hbm, ⟨3, _⟩ => ⟨S2048x2048, .bf16⟩
  | .hbm, ⟨4, _⟩ => ⟨S2048x512, .bf16⟩
  | .hbm, ⟨5, _⟩ => ⟨S2048x1024, .bf16⟩
  | .hbm, ⟨6, _⟩ => ⟨S512x2048, .bf16⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S4x2048x2048, .f32⟩
  | .hbm, ⟨14, _⟩ => ⟨S4x2048x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x512x2048, .f32⟩
  | .local _ .vmem, ⟨3, _⟩ => ⟨S1x512x2048, .f32⟩
  | .local _ .vmem, ⟨4, _⟩ => ⟨S1x256x2048, .f32⟩
  | .local _ .vmem, ⟨5, _⟩ => ⟨S1x256x2048, .f32⟩
  | .local _ .vmem, ⟨6, _⟩ => ⟨S2048x2048, .bf16⟩
  | .local _ .vmem, ⟨7, _⟩ => ⟨S2048x512, .bf16⟩
  | .local _ .vmem, ⟨8, _⟩ => ⟨S2048x1024, .bf16⟩
  | .local _ .vmem, ⟨9, _⟩ => ⟨S512x2048, .bf16⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S1x512x2048, .f32⟩
  | .local _ .vmem, ⟨14, _⟩ => ⟨S1x512x2048, .f32⟩
  | .local _ .vmem, ⟨15, _⟩ => ⟨S1x512x2048, .bf16⟩
  | .local _ .vmem, ⟨16, _⟩ => ⟨S1x512x2048, .bf16⟩
  | .local _ .vmem, ⟨17, _⟩ => ⟨S256x1024, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MidReferenceIdeal.lean ====
abbrev S4x2048x2048 : Shape := ⟨3, ![4, 2048, 2048]⟩
abbrev S4x256x2048 : Shape := ⟨3, ![4, 256, 2048]⟩
abbrev S2048x2048 : Shape := ⟨2, ![2048, 2048]⟩
abbrev S2048x512 : Shape := ⟨2, ![2048, 512]⟩
abbrev S2048x1024 : Shape := ⟨2, ![2048, 1024]⟩
abbrev S512x2048 : Shape := ⟨2, ![512, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x512 : Shape := ⟨3, ![4, 2048, 512]⟩
abbrev S4x2048x4x128 : Shape := ⟨4, ![4, 2048, 4, 128]⟩
abbrev S4x256 : Shape := ⟨2, ![4, 256]⟩
abbrev S4x256x1 : Shape := ⟨3, ![4, 256, 1]⟩
abbrev S4x256x1024 : Shape := ⟨3, ![4, 256, 1024]⟩
abbrev S4x256x2x4x128 : Shape := ⟨5, ![4, 256, 2, 4, 128]⟩
abbrev S4x256x1x4x128 : Shape := ⟨5, ![4, 256, 1, 4, 128]⟩
abbrev S4x256x4x128 : Shape := ⟨4, ![4, 256, 4, 128]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩

abbrev nBuf : Space → Nat
  | .hbm => 97
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x2048, .f32⟩
  | .hbm, ⟨2, _⟩ => ⟨S4x256x2048, .f32⟩
  | .hbm, ⟨3, _⟩ => ⟨S2048x2048, .bf16⟩
  | .hbm, ⟨4, _⟩ => ⟨S2048x512, .bf16⟩
  | .hbm, ⟨5, _⟩ => ⟨S2048x1024, .bf16⟩
  | .hbm, ⟨6, _⟩ => ⟨S512x2048, .bf16⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S4x2048x2048, .f32⟩
  | .hbm, ⟨11, _⟩ => ⟨S2048x2048, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S1x1x2048, .f32⟩
  | .hbm, ⟨28, _⟩ => ⟨S4x2048x2048, .f32⟩
  | .hbm, ⟨29, _⟩ => ⟨S4x2048x2048, .f32⟩
  | .hbm, ⟨30, _⟩ => ⟨S2048x512, .f32⟩
  | .hbm, ⟨31, _⟩ => ⟨S4x2048x512, .f32⟩
  | .hbm, ⟨32, _⟩ => ⟨S4x2048x4x128, .f32⟩
  | .hbm, ⟨33, _⟩ => ⟨S4x256x2048, .f32⟩
  | .hbm, ⟨34, _⟩ => ⟨S_, .f32⟩
  | .hbm, ⟨35, _⟩ => ⟨S4x256, .f32⟩
  | .hbm, ⟨36, _⟩ => ⟨S4x256x1, .f32⟩
  | .hbm, ⟨37, _⟩ => ⟨S_, .f32⟩
  | .hbm, ⟨38, _⟩ => ⟨S4x256x1, .f32⟩
  | .hbm, ⟨39, _⟩ => ⟨S4x256x1, .f32⟩
  | .hbm, ⟨40, _⟩ => ⟨S_, .f32⟩
  | .hbm, ⟨41, _⟩ => ⟨S4x256x1, .f32⟩
  | .hbm, ⟨42, _⟩ => ⟨S4x256x1, .f32⟩
  | .hbm, ⟨43, _⟩ => ⟨S4x256x1, .f32⟩
  | .hbm, ⟨44, _⟩ => ⟨S4x256x2048, .f32⟩
  | .hbm, ⟨45, _⟩ => ⟨S4x256x2048, .f32⟩
  | .hbm, ⟨46, _⟩ => ⟨S1x1x2048, .f32⟩
  | .hbm, ⟨47, _⟩ => ⟨S4x256x2048, .f32⟩
  | .hbm, ⟨48, _⟩ => ⟨S4x256x2048, .f32⟩
  | .hbm, ⟨49, _⟩ => ⟨S2048x1024, .f32⟩
  | .hbm, ⟨50, _⟩ => ⟨S4x256x1024, .f32⟩
  | .hbm, ⟨51, _⟩ => ⟨S4x256x2x4x128, .f32⟩
  | .hbm, ⟨52, _⟩ => ⟨S4x256x1x4x128, .f32⟩
  | .hbm, ⟨53, _⟩ => ⟨S4x256x4x128, .f32⟩
  | .hbm, ⟨54, _⟩ => ⟨S4x4x2048x256, .f32⟩
  | .hbm, ⟨55, _⟩ => ⟨S_, .f32⟩
  | .hbm, ⟨56, _⟩ => ⟨S4x4x2048x256, .f32⟩
  | .hbm, ⟨57, _⟩ => ⟨S4x4x2048x256, .f32⟩
  | .hbm, ⟨58, _⟩ => ⟨S_, .f32⟩
  | .hbm, ⟨59, _⟩ => ⟨S4x4x2048, .f32⟩
  | .hbm, ⟨60, _⟩ => ⟨S_, .f32⟩
  | .hbm, ⟨61, _⟩ => ⟨S4x4x2048, .f32⟩
  | .hbm, ⟨62, _⟩ => ⟨S4x4x2048, .f32⟩
  | .hbm, ⟨63, _⟩ => ⟨S4x4x2048x1, .f32⟩
  | .hbm, ⟨64, _⟩ => ⟨S4x4x2048x256, .f32⟩
  | .hbm, ⟨65, _⟩ => ⟨S4x4x2048x256, .f32⟩
  | .hbm, ⟨66, _⟩ => ⟨S4x4x2048x256, .f32⟩
  | .hbm, ⟨67, _⟩ => ⟨S_, .f32⟩
  | .hbm, ⟨68, _⟩ => ⟨S4x4x2048, .f32⟩
  | .hbm, ⟨69, _⟩ => ⟨S4x4x2048x1, .f32⟩
  | .hbm, ⟨70, _⟩ => ⟨S4x4x2048x256, .f32⟩
  | .hbm, ⟨71, _⟩ => ⟨S4x4x2048x256, .f32⟩
  | .hbm, ⟨72, _⟩ => ⟨S4x256x1x4x128, .f32⟩
  | .hbm, ⟨73, _⟩ => ⟨S4x256x4x128, .f32⟩
  | .hbm, ⟨74, _⟩ => ⟨S4x4x128x2048, .f32⟩
  | .hbm, ⟨75, _⟩ => ⟨S4x2048x4x128, .f32⟩
  | .hbm, ⟨76, _⟩ => ⟨S4x2048x512, .f32⟩
  | .hbm, ⟨77, _⟩ => ⟨S512x2048, .f32⟩
  | .hbm, ⟨78, _⟩ => ⟨S4x2048x2048, .f32⟩
  | .hbm, ⟨79, _⟩ => ⟨S4x2048x2048, .f32⟩
  | .hbm, ⟨80, _⟩ => ⟨S4x2048x2048, .f32⟩
  | .hbm, ⟨81, _⟩ => ⟨S_, .f32⟩
  | .hbm, ⟨82, _⟩ => ⟨S4x2048, .f32⟩
  | .hbm, ⟨83, _⟩ => ⟨S4x2048x1, .f32⟩
  | .hbm, ⟨84, _⟩ => ⟨S_, .f32⟩
  | .hbm, ⟨85, _⟩ => ⟨S4x2048x1, .f32⟩
  | .hbm, ⟨86, _⟩ => ⟨S4x2048x1, .f32⟩
  | .hbm, ⟨87, _⟩ => ⟨S_, .f32⟩
  | .hbm, ⟨88, _⟩ => ⟨S4x2048x1, .f32⟩
  | .hbm, ⟨89, _⟩ => ⟨S4x2048x1, .f32⟩
  | .hbm, ⟨90, _⟩ => ⟨S4x2048x1, .f32⟩
  | .hbm, ⟨91, _⟩ => ⟨S4x2048x2048, .f32⟩
  | .hbm, ⟨92, _⟩ => ⟨S4x2048x2048, .f32⟩
  | .hbm, ⟨93, _⟩ => ⟨S1x1x2048, .f32⟩
  | .hbm, ⟨94, _⟩ => ⟨S4x2048x2048, .f32⟩
  | .hbm, ⟨95, _⟩ => ⟨S4x2048x2048, .f32⟩
  | .hbm, ⟨96, _⟩ => ⟨S4x2048x2048, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_cst_10 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]
-- ==== Proof.Down.lean ====
/- THE LAST MATRIX PRODUCT WITH ITS RESIDUAL AND NORMALISATION: what the kernel leaves in the result array is, row by
   row, the same function of the arguments as the reference. The kernel handles a block of 512 rows as two halves of
   256 rows, each in four tiles of 512 columns; a row's sum of squares is summed tile by tile and multiplied by 2⁻¹¹. -/
module

public import proofs.«01_k».proof.Proof.Gen.DownKernelIdeal.Value
public import proofs.«01_k».proof.Proof.Gen.DownReferenceIdeal.Run
public import proofs.«01_k».proof.Proof.Gen.DownReferenceIdeal.Read
public import Idealize.ShloMosaic.Lib.Pointwise

@[expose] public section

noncomputable section

namespace Cert.DownMix

open Cert.DownKernelIdeal Cert.DownKernelIdeal.Gen Cert.DownKernelIdeal.Value Idealize.ShloMosaic Idealize.ShloMosaic.TcCoe Idealize.SL.Sem

/-- A row divided by the root of its mean square (plus the small constant) and scaled, at column `l`. -/
def normRow (y w : Fin 2048 → EReal) (l : Fin 2048) : EReal :=
  y l * Ideal.rsqrt ((∑ l' : Fin 2048, y l' * y l') * Ideal.ofBits .f32 973078528#32 + Ideal.ofBits .f32 897988541#32) * w l

/-- A sum over the 2048 columns, as the kernel adds it up: four tiles of 512. -/
theorem sum_tiles (f : Fin 2048 → EReal) :
    ∑ l, f l = (((∑ x : Fin 512, f ⟨x, by omega⟩) + ∑ x : Fin 512, f ⟨512 + x, by omega⟩) + ∑ x : Fin 512, f ⟨1024 + x, by omega⟩)
      + ∑ x : Fin 512, f ⟨1536 + x, by omega⟩ := by
  rw [Fin.sum_univ_tiles 4 512 rfl, Fin.sum_univ_four]
  rfl

/-- The normalised row of the product plus the residual, from a block of rows (`n` of them) and the whole right factor. -/
def normAt {n : ℕ} (x0 : Fin n → Fin 5632 → EReal) (x1 : Fin 5632 → Fin 2048 → EReal) (x2 : Fin n → Fin 2048 → EReal)
    (x3 : Fin 2048 → EReal) (i : Fin n) (l : Fin 2048) : EReal :=
  normRow (fun l => x2 i l + ∑ k, x0 i k * x1 k l) x3 l

section Block

variable (x0 : Vec Ideal S512x5632 .bf16) (x1 : Vec Ideal S5632x2048 .bf16) (x2 : Vec Ideal S512x2048 .f32) (x3 : Vec Ideal S1x2048 .f32)

/-- The block's result, index by index. -/
def blockOf : Vec Ideal S512x2048 .f32 := fun i =>
  normAt (fun i k => x0 (ix2 i k)) (fun k l => x1 (ix2 k l)) (fun i l => x2 (ix2 i l)) (fun l => x3 (ix2 0 l)) (i 0) (i 1)

theorem blockOf_ix2 (i : Fin 512) (l : Fin 2048) : blockOf x0 x1 x2 x3 (ix2 i l)
    = normRow (fun l => x2 (ix2 i l) + ∑ k : Fin 5632, x0 (ix2 i k) * x1 (ix2 k l)) (fun l => x3 (ix2 0 l)) l := rfl

/-- A 256 × 512 tile's index `(r, l)` is the block's index `(o + r, p + l)`, the tile starting at `(o, p)`. -/
theorem emb_ix2 (o p : ℕ) (ho : o + 256 ≤ 512) (hp : p + 512 ≤ 2048) {h} (r : Fin 256) (l : Fin 512) :
    (Rect.unit (s := S512x2048) ![o, p] S256x512.size h).emb (ix2 r l) = ix2 (⟨o + r, by omega⟩ : Fin 512) (⟨p + l, by omega⟩ : Fin 2048) := by
  funext a; apply Fin.ext
  match a with
  | ⟨0, _⟩ => show o + 1 * r.val = o + r.val; omega
  | ⟨1, _⟩ => show p + 1 * l.val = p + l.val; omega

/-- Rows 0 to 255, column tile 0. -/
theorem upper0 (j : S256x512.Idx) :
    k0_pay13 (k0_pay6 (View.ld x0 r0_0) (View.ld x2 r0_1) (View.ld x1 r0_2)) (k0_pay23 x0 x1 x2 x3) (k0_pay24 x0 x1 x2 x3) (View.ld x3 r0_9) j
      = blockOf x0 x1 x2 x3 (r0_1.emb j) := by
  idx_vars j
  rw [emb_ix2 0 0 (by omega) (by omega), blockOf_ix2, normRow, sum_tiles]
  pointwise [k0_pay13, k0_pay6, k0_pay23, k0_pay24, k0_pay10, k0_pay11, k0_pay12, k0_pay7, k0_pay8, k0_pay9]

/-- Rows 0 to 255, column tile 1. -/
theorem upper1 (j : S256x512.Idx) :
    k0_pay14 (k0_pay7 (View.ld x0 r0_0) (View.ld x2 r0_3) (View.ld x1 r0_4)) (k0_pay23 x0 x1 x2 x3) (k0_pay24 x0 x1 x2 x3) (View.ld x3 r0_10) j
      = blockOf x0 x1 x2 x3 (r0_3.emb j) := by
  idx_vars j
  rw [emb_ix2 0 512 (by omega) (by omega), blockOf_ix2, normRow, sum_tiles]
  pointwise [k0_pay14, k0_pay7, k0_pay23, k0_pay24, k0_pay10, k0_pay11, k0_pay12, k0_pay6, k0_pay8, k0_pay9]

/-- Rows 0 to 255, column tile 2. -/
theorem upper2 (j : S256x512.Idx) :
    k0_pay15 (k0_pay8 (View.ld x0 r0_0) (View.ld x2 r0_5) (View.ld x1 r0_6)) (k0_pay23 x0 x1 x2 x3) (k0_pay24 x0 x1 x2 x3) (View.ld x3 r0_11) j
      = blockOf x0 x1 x2 x3 (r0_5.emb j) := by
  idx_vars j
  rw [emb_ix2 0 1024 (by omega) (by omega), blockOf_ix2, normRow, sum_tiles]
  pointwise [k0_pay15, k0_pay8, k0_pay23, k0_pay24, k0_pay10, k0_pay11, k0_pay12, k0_pay6, k0_pay7, k0_pay9]

/-- Rows 0 to 255, column tile 3. -/
theorem upper3 (j : S256x512.Idx) :
    k0_pay16 (k0_pay9 (View.ld x0 r0_0) (View.ld x2 r0_7) (View.ld x1 r0_8)) (k0_pay23 x0 x1 x2 x3) (k0_pay24 x0 x1 x2 x3) (View.ld x3 r0_12) j
      = blockOf x0 x1 x2 x3 (r0_7.emb j) := by
  idx_vars j
  rw [emb_ix2 0 1536 (by omega) (by omega), blockOf_ix2, normRow, sum_tiles]
  pointwise [k0_pay16, k0_pay9, k0_pay23, k0_pay24, k0_pay10, k0_pay11, k0_pay12, k0_pay6, k0_pay7, k0_pay8]

/-- Rows 256 to 511, column tile 0. -/
theorem lower0 (j : S256x512.Idx) :
    k0_pay2 (k0_pay17 (View.ld x0 r0_13) (View.ld x2 r0_14) (View.ld x1 r0_2)) (k0_pay25 x0 x1 x2 x3) (k0_pay26 x0 x1 x2 x3) (View.ld x3 r0_9) j
      = blockOf x0 x1 x2 x3 (r0_14.emb j) := by
  idx_vars j
  rw [emb_ix2 256 0 (by omega) (by omega), blockOf_ix2, normRow, sum_tiles]
  pointwise [k0_pay2, k0_pay17, k0_pay25, k0_pay26, k0_pay21, k0_pay22, k0_pay1, k0_pay18, k0_pay19, k0_pay20]

/-- Rows 256 to 511, column tile 1. -/
theorem lower1 (j : S256x512.Idx) :
    k0_pay3 (k0_pay18 (View.ld x0 r0_13) (View.ld x2 r0_15) (View.ld x1 r0_4)) (k0_pay25 x0 x1 x2 x3) (k0_pay26 x0 x1 x2 x3) (View.ld x3 r0_10) j
      = blockOf x0 x1 x2 x3 (r0_15.emb j) := by
  idx_vars j
  rw [emb_ix2 256 512 (by omega) (by omega), blockOf_ix2, normRow, sum_tiles]
  pointwise [k0_pay3, k0_pay18, k0_pay25, k0_pay26, k0_pay21, k0_pay22, k0_pay1, k0_pay17, k0_pay19, k0_pay20]

/-- Rows 256 to 511, column tile 2. -/
theorem lower2 (j : S256x512.Idx) :
    k0_pay4 (k0_pay19 (View.ld x0 r0_13) (View.ld x2 r0_16) (View.ld x1 r0_6)) (k0_pay25 x0 x1 x2 x3) (k0_pay26 x0 x1 x2 x3) (View.ld x3 r0_11) j
      = blockOf x0 x1 x2 x3 (r0_16.emb j) := by
  idx_vars j
  rw [emb_ix2 256 1024 (by omega) (by omega), blockOf_ix2, normRow, sum_tiles]
  pointwise [k0_pay4, k0_pay19, k0_pay25, k0_pay26, k0_pay21, k0_pay22, k0_pay1, k0_pay17, k0_pay18, k0_pay20]

/-- Rows 256 to 511, column tile 3. -/
theorem lower3 (j : S256x512.Idx) :
    k0_pay5 (k0_pay20 (View.ld x0 r0_13) (View.ld x2 r0_17) (View.ld x1 r0_8)) (k0_pay25 x0 x1 x2 x3) (k0_pay26 x0 x1 x2 x3) (View.ld x3 r0_12) j
      = blockOf x0 x1 x2 x3 (r0_17.emb j) := by
  idx_vars j
  rw [emb_ix2 256 1536 (by omega) (by omega), blockOf_ix2, normRow, sum_tiles]
  pointwise [k0_pay5, k0_pay20, k0_pay25, k0_pay26, k0_pay21, k0_pay22, k0_pay1, k0_pay17, k0_pay18, k0_pay19]

/-- What a grid point leaves in its block of the result. -/
theorem out_eq : out0_4 x0 x1 x2 x3 = blockOf x0 x1 x2 x3 := by
  funext y
  unfold out0_4
  refine View.canon_apply_of_pieces (blockOf x0 x1 x2 x3) _ ?_ y (cover0_4 ..)
  exact List.forall_mem_cons.mpr ⟨lower3 x0 x1 x2 x3, List.forall_mem_cons.mpr ⟨lower2 x0 x1 x2 x3, List.forall_mem_cons.mpr ⟨lower1 x0 x1 x2 x3, List.forall_mem_cons.mpr ⟨lower0 x0 x1 x2 x3, List.forall_mem_cons.mpr ⟨upper3 x0 x1 x2 x3, List.forall_mem_cons.mpr ⟨upper2 x0 x1 x2 x3, List.forall_mem_cons.mpr ⟨upper1 x0 x1 x2 x3, List.forall_mem_cons.mpr ⟨upper0 x0 x1 x2 x3, List.forall_mem_nil _⟩⟩⟩⟩⟩⟩⟩⟩

end Block

variable (m : (ℓ : Loc nD τ sig) → Buf (Elt Ideal) ℓ)

theorem lead (v : Vec Ideal S2048 .f32) (l : Fin 2048) : shapeCast S1x2048 v shapeCasts_S2048_S1x2048 (ix2 (0 : Fin 1) l) = v (ix1 l) := by
  pointwise []

/-- The scaling row, as the region finds it: the argument with a leading axis of extent 1. -/
theorem V_main_v0 (c : Dev nD) (l : Fin 2048) : V m c main_v0 (ix2 (0 : Fin 1) l) = m ((c : Thread nD τ).loc main_arg3) (ix1 l) := by
  show StableHlo.after hostOps0 _ (Proc.devRef .tc main_v0) _ = _
  after_results
  show shapeCast S1x2048 (m (c, Proc.devRef .tc main_arg3)) shapeCasts_S2048_S1x2048 (ix2 0 l) = _
  exact lead _ l

/-- Row block `t` starts at row `512 t`; the right factor and the scaling row are whole at every point. -/
theorem idx_rows : ∀ t : Fin cfg0.N, win0_0.index t (0 : Fin 2) = t.val ∧ win0_0.index t (1 : Fin 2) = 0
    ∧ win0_2.index t (0 : Fin 2) = t.val ∧ win0_2.index t (1 : Fin 2) = 0 ∧ win0_4.index t (0 : Fin 2) = t.val ∧ win0_4.index t (1 : Fin 2) = 0 :=
  (by decide +kernel : ∀ t : Fin grid0.N, _)

theorem idx_whole : ∀ t : Fin cfg0.N, win0_1.index t (0 : Fin 2) = 0 ∧ win0_1.index t (1 : Fin 2) = 0
    ∧ win0_3.index t (0 : Fin 2) = 0 ∧ win0_3.index t (1 : Fin 2) = 0 :=
  (by decide +kernel : ∀ t : Fin grid0.N, _)

/-- The whole result array as a function of the arguments. -/
def result (a0 : Vec Ideal S8192x5632 .bf16) (a1 : Vec Ideal S5632x2048 .bf16) (a2 : Vec Ideal S8192x2048 .f32) (a3 : Vec Ideal S2048 .f32) :
    Vec Ideal S8192x2048 .f32 := fun i =>
  normAt (fun i k => a0 (ix2 i k)) (fun k l => a1 (ix2 k l)) (fun i l => a2 (ix2 i l)) (fun l => a3 (ix1 l)) (i 0) (i 1)

/-- The divisor of the mean is 2048, and multiplying by the kernel's factor is dividing by it. -/
theorem div_mean (x : EReal) : Ideal.div x (Ideal.ofBits .f32 0x45000000#32) = x * Ideal.ofBits .f32 973078528#32 := by
  rw [show Ideal.ofBits .f32 0x45000000#32 = ((2048 : ℝ) : EReal) by simp [Ideal.ofBits, Ideal.ieee, -EReal.coe_mul]; norm_num,
    Ideal.div_coe (by norm_num),
    show Ideal.ofBits .f32 973078528#32 = ((1 / 2048 : ℝ) : EReal) by simp [Ideal.ofBits, Ideal.ieee, -EReal.coe_mul]; norm_num]

theorem reference_eq (a0 : Vec Ideal S8192x5632 .bf16) (a1 : Vec Ideal S5632x2048 .bf16) (a2 : Vec Ideal S8192x2048 .f32) (a3 : Vec Ideal S2048 .f32) :
    Cert.DownReferenceIdeal.Read.val_main_v16 a0 a1 a2 a3 = result a0 a1 a2 a3 := by
  funext i
  idx_vars i
  unfold result normAt normRow
  rw [← div_mean]
  pointwise [Cert.DownReferenceIdeal.Read.val_main_v16, Cert.DownReferenceIdeal.Read.val_main_v15, Cert.DownReferenceIdeal.Read.val_main_v14, Cert.DownReferenceIdeal.Read.val_main_v13, Cert.DownReferenceIdeal.Read.val_main_v12, Cert.DownReferenceIdeal.Read.val_main_v11, Cert.DownReferenceIdeal.Read.val_main_v10, Cert.DownReferenceIdeal.Read.val_main_v9, Cert.DownReferenceIdeal.Read.val_main_cst_1, Cert.DownReferenceIdeal.Read.val_main_v8, Cert.DownReferenceIdeal.Read.val_main_v7, Cert.DownReferenceIdeal.Read.val_main_cst_0, Cert.DownReferenceIdeal.Read.val_main_v6, Cert.DownReferenceIdeal.Read.val_main_v5, Cert.DownReferenceIdeal.Read.val_main_cst, Cert.DownReferenceIdeal.Read.val_main_v4, Cert.DownReferenceIdeal.Read.val_main_v3, Cert.DownReferenceIdeal.Read.val_main_v2, Cert.DownReferenceIdeal.Read.val_main_v1, Cert.DownReferenceIdeal.Read.val_main_v0]

/-- A grid point's block of each array: row `r` of block `t` is row `512 t + r`. -/
theorem emb0 (t : Fin cfg0.N) (r : Fin 512) (k : Fin 5632) :
    ((cfg0.win 0).blk t).view.emb (ix2 r k) = ix2 (⟨512 * t.val + r, by have := t.isLt; have : cfg0.N = 16 := rfl; omega⟩ : Fin 8192) k := by
  obtain ⟨e0, e1, -⟩ := idx_rows t
  funext a; apply Fin.ext
  match a with
  | ⟨0, _⟩ => show win0_0.index t (0 : Fin 2) * 512 + 1 * r.val = 512 * t.val + r.val; omega
  | ⟨1, _⟩ => show win0_0.index t (1 : Fin 2) * 5632 + 1 * k.val = k.val; omega

theorem emb1 (t : Fin cfg0.N) (k : Fin 5632) (l : Fin 2048) : ((cfg0.win 1).blk t).view.emb (ix2 k l) = ix2 k l := by
  obtain ⟨e0, e1, -⟩ := idx_whole t
  funext a; apply Fin.ext
  match a with
  | ⟨0, _⟩ => show win0_1.index t (0 : Fin 2) * 5632 + 1 * k.val = k.val; omega
  | ⟨1, _⟩ => show win0_1.index t (1 : Fin 2) * 2048 + 1 * l.val = l.val; omega

theorem emb2 (t : Fin cfg0.N) (r : Fin 512) (l : Fin 2048) :
    ((cfg0.win 2).blk t).view.emb (ix2 r l) = ix2 (⟨512 * t.val + r, by have := t.isLt; have : cfg0.N = 16 := rfl; omega⟩ : Fin 8192) l := by
  obtain ⟨-, -, e0, e1, -⟩ := idx_rows t
  funext a; apply Fin.ext
  match a with
  | ⟨0, _⟩ => show win0_2.index t (0 : Fin 2) * 512 + 1 * r.val = 512 * t.val + r.val; omega
  | ⟨1, _⟩ => show win0_2.index t (1 : Fin 2) * 2048 + 1 * l.val = l.val; omega

theorem emb3 (t : Fin cfg0.N) (l : Fin 2048) : ((cfg0.win 3).blk t).view.emb (ix2 (0 : Fin 1) l) = ix2 (0 : Fin 1) l := by
  obtain ⟨-, -, e0, e1⟩ := idx_whole t
  funext a; apply Fin.ext
  match a with
  | ⟨0, _⟩ => show win0_3.index t (0 : Fin 2) * 1 + 1 * 0 = 0; omega
  | ⟨1, _⟩ => show win0_3.index t (1 : Fin 2) * 2048 + 1 * l.val = l.val; omega

theorem emb4 (t : Fin cfg0.N) (r : Fin 512) (l : Fin 2048) :
    ((cfg0.win 4).blk t).view.emb (ix2 r l) = ix2 (⟨512 * t.val + r, by have := t.isLt; have : cfg0.N = 16 := rfl; omega⟩ : Fin 8192) l := by
  obtain ⟨-, -, -, -, e0, e1⟩ := idx_rows t
  funext a; apply Fin.ext
  match a with
  | ⟨0, _⟩ => show win0_4.index t (0 : Fin 2) * 512 + 1 * r.val = 512 * t.val + r.val; omega
  | ⟨1, _⟩ => show win0_4.index t (1 : Fin 2) * 2048 + 1 * l.val = l.val; omega

/-- The arguments of core `c`, and the result they give. -/
abbrev resultOf (c : Dev nD) : Vec Ideal S8192x2048 .f32 :=
  result (m ((c : Thread nD τ).loc main_arg0)) (m ((c : Thread nD τ).loc main_arg1)) (m ((c : Thread nD τ).loc main_arg2))
    (m ((c : Thread nD τ).loc main_arg3))

/-- What a grid point writes back is its block of the result. -/
theorem flushed_eq (c : Dev nD) (t : Fin cfg0.N) :
    (dats m 0 c).flushed 4 t = ((cfg0.win 4).blk t).view.read (Elt Ideal) (resultOf m c) := by
  rw [flushed4, out_eq]
  funext j
  show blockOf (iblk m c 0 t) (iblk m c 1 t) (iblk m c 2 t) (iblk m c 3 t) j = resultOf m c (((cfg0.win 4).blk t).view.emb j)
  idx_vars j
  rw [emb4]
  have h0 : ∀ k, iblk m c 0 t (ix2 j0 k) = m ((c : Thread nD τ).loc main_arg0) (ix2 (⟨512 * t.val + j0, by have := t.isLt; have : cfg0.N = 16 := rfl; omega⟩ : Fin 8192) k) := fun k => by
    show V m c main_arg0 (((cfg0.win 0).blk t).view.emb (ix2 j0 k)) = _; rw [emb0, V_main_arg0]
  have h1 : ∀ k l, iblk m c 1 t (ix2 k l) = m ((c : Thread nD τ).loc main_arg1) (ix2 k l) := fun k l => by
    show V m c main_arg1 (((cfg0.win 1).blk t).view.emb (ix2 k l)) = _; rw [emb1, V_main_arg1]
  have h2 : ∀ l, iblk m c 2 t (ix2 j0 l) = m ((c : Thread nD τ).loc main_arg2) (ix2 (⟨512 * t.val + j0, by have := t.isLt; have : cfg0.N = 16 := rfl; omega⟩ : Fin 8192) l) := fun l => by
    show V m c main_arg2 (((cfg0.win 2).blk t).view.emb (ix2 j0 l)) = _; rw [emb2, V_main_arg2]
  have h3 : ∀ l : Fin 2048, iblk m c 3 t (ix2 (0 : Fin 1) l) = m ((c : Thread nD τ).loc main_arg3) (ix1 l) := fun l => by
    show V m c main_v0 (((cfg0.win 3).blk t).view.emb (ix2 (0 : Fin 1) l)) = _; rw [emb3, V_main_v0]
  show normAt _ _ _ _ j0 j1 = normAt _ _ _ _ (⟨512 * t.val + j0, _⟩ : Fin 8192) j1
  unfold normAt
  simp only [h0, h1, h2, h3]

/-- Every row of the result is in some block. -/
theorem covered (i : S8192x2048.Idx) : ∃ t : Fin cfg0.N, (cfg0.win 4).flush t = true ∧ i ∈ ((cfg0.win 4).blk t).view.set := by
  idx_vars i
  refine ⟨⟨i0.val / 512, by show _ < 16; omega⟩, flush0_4 _, ?_⟩
  have h := ((cfg0.win 4).blk ⟨i0.val / 512, by show _ < 16; omega⟩).view.emb_mem_set
    (ix2 (⟨i0.val % 512, by omega⟩ : Fin 512) i1)
  rw [emb4] at h
  have e : (⟨512 * (i0.val / 512) + i0.val % 512, by omega⟩ : Fin 8192) = i0 := Fin.ext (by show 512 * (i0.val / 512) + i0.val % 512 = i0.val; omega)
  rwa [e] at h

/-- The result array after the run. -/
theorem final (c : Dev nD) : (dats m 0 c).arrAt 4 cfg0.N = resultOf m c :=
  (dats m 0 c).arrAt_eq_of_cover 4 (resultOf m c) (fun t _ => flushed_eq m c t) covered

end Cert.DownMix
end
-- ==== Proof.DownClaims.lean ====
/- THE CLAIMS about the last matrix product with its residual and normalisation: the reference's frame, and the equality
   of the two results at the ideal instance. -/
module

public import proofs.«01_k».proof.Proof.Down
public import proofs.«01_k».proof.Defs

@[expose] public section

noncomputable section

namespace Cert.DownMix

open Idealize.ShloMosaic Idealize.SL.Sem

theorem frame_reference : Cert.quiescent_DownReferenceIdeal := fun m ρ _ =>
  (θ_run Cert.DownReferenceIdeal.defs _ _).mono (fun r h => ⟨fun c => (h c).2, Idealize.ShloMosaic.sem_eq_zero_of_no_sems (by decide) r.2⟩)
    (Cert.DownReferenceIdeal.Value.run (F := Ideal) m ρ)

/-- Kernel and reference leave the same array: each the normalised rows of its arguments, which agree. -/
theorem algebraic : Cert.algebraic_DownKernelIdeal_DownReferenceIdeal := by
  intro m ρ m' ρ' _ hagree
  refine ⟨resultOf m, (θ_run Cert.DownKernelIdeal.defs _ _).mono (fun r h c => ⟨(h c).1.trans (final m c), (h c).2⟩)
    (Cert.DownKernelIdeal.Value.run_blocks m ρ), ?_⟩
  refine (θ_run Cert.DownReferenceIdeal.defs _ _).mono (fun r h c => ⟨(h c).1.trans ?_, (h c).2⟩)
    (Cert.DownReferenceIdeal.Value.run (F := Ideal) m' ρ')
  obtain ⟨e0, e1, e2, e3⟩ := hagree c
  rw [Cert.DownReferenceIdeal.Read.val_main_v16_eq, e0, e1, e2, e3]
  exact reference_eq _ _ _ _

end Cert.DownMix

end
-- ==== Proof.Up.lean ====
/- THE GATED PRODUCT OF THE FEED-FORWARD PART: what the kernel leaves in its two result arrays is the same function of the
   arguments as the reference. A grid point takes 2048 rows and 512 columns, in eight groups of 256 rows, and along the
   way stores 128 rows of the next product's right factor in bfloat16. The kernel writes the gate with a hyperbolic
   tangent, the reference with an exponential: the two agree at every real number. -/
module

public import proofs.«01_k».proof.Proof.Gen.UpKernelIdeal.Value
public import proofs.«01_k».proof.Proof.Gen.UpReferenceIdeal.Run
public import proofs.«01_k».proof.Proof.Gen.UpReferenceIdeal.Read
public import proofs.«01_k».proof.Proof.Gen.Pre_finite_gate
public import Idealize.ShloMosaic.Lib.Pointwise

@[expose] public section

noncomputable section

namespace Cert.UpMix

open Cert.UpKernelIdeal Cert.UpKernelIdeal.Gen Cert.UpKernelIdeal.Value Idealize.ShloMosaic Idealize.ShloMosaic.TcCoe Idealize.SL.Sem

/-- The gate as the kernel writes it: with `h` half of its argument, `h · tanh h + h`. -/
def gate (x : EReal) : EReal :=
  Ideal.ofBits .f32 1056964608#32 * x * Ideal.tanh (Ideal.ofBits .f32 1056964608#32 * x) + Ideal.ofBits .f32 1056964608#32 * x

/-- The gate as the reference writes it: the argument times the logistic function of it. -/
def silu (x : EReal) : EReal := x * Ideal.div 1 (1 + Ideal.exp (-x))

theorem half : Ideal.ofBits .f32 1056964608#32 = ((1 / 2 : ℝ) : EReal) := by
  simp [Ideal.ofBits, Ideal.ieee, -EReal.coe_mul]; norm_num

/-- Half of `x` times one more than its hyperbolic tangent is `x` over `1 + exp (-x)`. -/
theorem real_gate (x : ℝ) : 1 / 2 * x * Real.tanh (1 / 2 * x) + 1 / 2 * x = x * (1 / (1 + Real.exp (-x))) := by
  have h : Real.exp (-x) = Real.exp (-(1 / 2 * x)) * Real.exp (-(1 / 2 * x)) := by rw [← Real.exp_add]; congr 1; ring
  have h1 : Real.exp (1 / 2 * x) * Real.exp (-(1 / 2 * x)) = 1 := by rw [← Real.exp_add]; simp
  have hp := Real.exp_pos (1 / 2 * x)
  have hn := Real.exp_pos (-(1 / 2 * x))
  rw [Real.tanh_eq_sinh_div_cosh, Real.sinh_eq, Real.cosh_eq, h]
  generalize Real.exp (1 / 2 * x) = a at *
  generalize Real.exp (-(1 / 2 * x)) = b at *
  field_simp
  linear_combination (2 * x * b) * h1

theorem gate_eq (x : ℝ) : gate (x : EReal) = silu (x : EReal) := by
  unfold gate silu
  rw [half, ← EReal.coe_mul, Ideal.tanh_coe, ← EReal.coe_neg, Ideal.exp_coe,
    show (1 : EReal) = ((1 : ℝ) : EReal) from rfl, ← EReal.coe_add, Ideal.div_coe (by positivity), ← EReal.coe_mul, ← EReal.coe_mul,
    ← EReal.coe_mul, ← EReal.coe_add, real_gate]
  simp

/-- The gated product at a row and a column. -/
def gatedAt {n p : ℕ} (h : Fin n → Fin 2048 → EReal) (w1 w3 : Fin 2048 → Fin p → EReal) (i : Fin n) (l : Fin p) : EReal :=
  gate (∑ k, h i k * w1 k l) * ∑ k, h i k * w3 k l

section Block

variable (x0 : Vec Ideal S2048x2048 .bf16) (x1 x2 : Vec Ideal S2048x512 .f32)

/-- A grid point's block of the gated product. -/
def blockOf : Vec Ideal S2048x512 .bf16 := fun i =>
  gatedAt (fun i k => x0 (ix2 i k)) (fun k l => x1 (ix2 k l)) (fun k l => x2 (ix2 k l)) (i 0) (i 1)

theorem blockOf_ix2 (i : Fin 2048) (l : Fin 512) : blockOf x0 x1 x2 (ix2 i l)
    = gate (∑ k : Fin 2048, x0 (ix2 i k) * x1 (ix2 k l)) * ∑ k : Fin 2048, x0 (ix2 i k) * x2 (ix2 k l) := rfl

/-- Row `r` of the 256 rows from row `o` on is the block's row `o + r`. -/
theorem emb_ix2 (o : ℕ) (ho : o + 256 ≤ 2048) {h} (r : Fin 256) (l : Fin 512) :
    (Rect.unit (s := S2048x512) ![o, 0] S256x512.size h).emb (ix2 r l) = ix2 (⟨o + r, by omega⟩ : Fin 2048) l := by
  funext a; apply Fin.ext
  match a with
  | ⟨0, _⟩ => show o + 1 * r.val = o + r.val; omega
  | ⟨1, _⟩ => show 0 + 1 * l.val = l.val; omega

theorem rows0 (j : S256x512.Idx) :
    k0_pay6 (View.ld x0 (Rect.unit (s := S2048x2048) ![0, 0] S256x2048.size inb_S2048x2048_S256x2048_0_0)) (k0_pay4 x1) (k0_pay5 x2) j
      = blockOf x0 x1 x2 ((Rect.unit (s := S2048x512) ![0, 0] S256x512.size inb_S2048x512_S256x512_0_0).emb j) := by
  idx_vars j
  rw [emb_ix2 0 (by omega), blockOf_ix2, gate]
  pointwise [k0_pay6, k0_pay4, k0_pay5]

theorem rows1 (j : S256x512.Idx) :
    k0_pay7 (View.ld x0 (Rect.unit (s := S2048x2048) ![256, 0] S256x2048.size inb_S2048x2048_S256x2048_256_0)) (k0_pay4 x1) (k0_pay5 x2) j
      = blockOf x0 x1 x2 ((Rect.unit (s := S2048x512) ![256, 0] S256x512.size inb_S2048x512_S256x512_256_0).emb j) := by
  idx_vars j
  rw [emb_ix2 256 (by omega), blockOf_ix2, gate]
  pointwise [k0_pay7, k0_pay4, k0_pay5]

theorem rows2 (j : S256x512.Idx) :
    k0_pay8 (View.ld x0 (Rect.unit (s := S2048x2048) ![512, 0] S256x2048.size inb_S2048x2048_S256x2048_512_0)) (k0_pay4 x1) (k0_pay5 x2) j
      = blockOf x0 x1 x2 ((Rect.unit (s := S2048x512) ![512, 0] S256x512.size inb_S2048x512_S256x512_512_0).emb j) := by
  idx_vars j
  rw [emb_ix2 512 (by omega), blockOf_ix2, gate]
  pointwise [k0_pay8, k0_pay4, k0_pay5]

theorem rows3 (j : S256x512.Idx) :
    k0_pay12 (k0_pay9 (View.ld x0 (Rect.unit (s := S2048x2048) ![768, 0] S256x2048.size inb_S2048x2048_S256x2048_768_0)) (k0_pay4 x1)) (k0_pay10 (View.ld x0 (Rect.unit (s := S2048x2048) ![768, 0] S256x2048.size inb_S2048x2048_S256x2048_768_0)) (k0_pay5 x2)) (k0_pay11 (F := Ideal)) j
      = blockOf x0 x1 x2 ((Rect.unit (s := S2048x512) ![768, 0] S256x512.size inb_S2048x512_S256x512_768_0).emb j) := by
  idx_vars j
  rw [emb_ix2 768 (by omega), blockOf_ix2, gate]
  pointwise [k0_pay12, k0_pay9, k0_pay10, k0_pay11, k0_pay4, k0_pay5]

theorem rows4 (j : S256x512.Idx) :
    k0_pay13 (View.ld x0 (Rect.unit (s := S2048x2048) ![1024, 0] S256x2048.size inb_S2048x2048_S256x2048_1024_0)) (k0_pay4 x1) (k0_pay5 x2) j
      = blockOf x0 x1 x2 ((Rect.unit (s := S2048x512) ![1024, 0] S256x512.size inb_S2048x512_S256x512_1024_0).emb j) := by
  idx_vars j
  rw [emb_ix2 1024 (by omega), blockOf_ix2, gate]
  pointwise [k0_pay13, k0_pay4, k0_pay5]

theorem rows5 (j : S256x512.Idx) :
    k0_pay14 (View.ld x0 (Rect.unit (s := S2048x2048) ![1280, 0] S256x2048.size inb_S2048x2048_S256x2048_1280_0)) (k0_pay4 x1) (k0_pay5 x2) j
      = blockOf x0 x1 x2 ((Rect.unit (s := S2048x512) ![1280, 0] S256x512.size inb_S2048x512_S256x512_1280_0).emb j) := by
  idx_vars j
  rw [emb_ix2 1280 (by omega), blockOf_ix2, gate]
  pointwise [k0_pay14, k0_pay4, k0_pay5]

theorem rows6 (j : S256x512.Idx) :
    k0_pay1 (View.ld x0 (Rect.unit (s := S2048x2048) ![1536, 0] S256x2048.size inb_S2048x2048_S256x2048_1536_0)) (k0_pay4 x1) (k0_pay5 x2) j
      = blockOf x0 x1 x2 ((Rect.unit (s := S2048x512) ![1536, 0] S256x512.size inb_S2048x512_S256x512_1536_0).emb j) := by
  idx_vars j
  rw [emb_ix2 1536 (by omega), blockOf_ix2, gate]
  pointwise [k0_pay1, k0_pay4, k0_pay5]

theorem rows7 (j : S256x512.Idx) :
    k0_pay2 (View.ld x0 (Rect.unit (s := S2048x2048) ![1792, 0] S256x2048.size inb_S2048x2048_S256x2048_1792_0)) (k0_pay4 x1) (k0_pay5 x2) j
      = blockOf x0 x1 x2 ((Rect.unit (s := S2048x512) ![1792, 0] S256x512.size inb_S2048x512_S256x512_1792_0).emb j) := by
  idx_vars j
  rw [emb_ix2 1792 (by omega), blockOf_ix2, gate]
  pointwise [k0_pay2, k0_pay4, k0_pay5]

variable (c : Dev nD) (i : grid0.Coords) (arg2 : Memref sig .tc .vmem S2048x2048 .bf16) (harg2 : arg2.IsWhole) (arg3 : Memref sig .tc .vmem S2048x512 .f32) (harg3 : arg3.IsWhole) (arg4 : Memref sig .tc .vmem S2048x512 .f32) (harg4 : arg4.IsWhole) (arg5 : Memref sig .tc .vmem S128x2048 .f32) (harg5 : arg5.IsWhole) (arg6 : Memref sig .tc .vmem S2048x512 .bf16) (harg6 : arg6.IsWhole) (arg7 : Memref sig .tc .vmem S128x2048 .bf16) (harg7 : arg7.IsWhole) (arg8 : Memref sig .tc .vmem S2048x512 .bf16) (harg8 : arg8.IsWhole) (arg9 : Memref sig .tc .vmem S2048x512 .bf16) (harg9 : arg9.IsWhole)
  (x3 : Vec Ideal S128x2048 .f32)

theorem hz : (![0, 0] : Fin 2 → Nat) = fun _ => 0 := funext fun a => by fin_cases a <;> rfl

/-- What a grid point leaves in its block of the gated product. -/
theorem out4_eq : out0_A_4 c i arg2 harg2 arg3 harg3 arg4 harg4 arg5 harg5 arg6 harg6 arg7 harg7 arg8 harg8 arg9 harg9 x0 x1 x2 x3 = blockOf x0 x1 x2 := by
  funext y
  unfold out0_A_4
  rw [View.read_writes_junk_eq_canon]
  refine View.canon_apply_of_pieces (blockOf x0 x1 x2) _ ?_ y (cover0_A_4 ..)
  unfold kernelRun0_A
  dsimp only
  sl_unfold_words
  simp only [View.readAt_eq_ld, Memref.IsWhole.read_unread, View.readCov_unit_zero (S := S2048x512) _ hz, View.ld_unit_zero (S := S2048x512) hz]
  exact List.forall_mem_cons.mpr ⟨rows7 x0 x1 x2, List.forall_mem_cons.mpr ⟨rows6 x0 x1 x2, List.forall_mem_cons.mpr ⟨rows5 x0 x1 x2, List.forall_mem_cons.mpr ⟨rows4 x0 x1 x2, List.forall_mem_cons.mpr ⟨rows3 x0 x1 x2, List.forall_mem_cons.mpr ⟨rows2 x0 x1 x2, List.forall_mem_cons.mpr ⟨rows1 x0 x1 x2, List.forall_mem_cons.mpr ⟨rows0 x0 x1 x2, List.forall_mem_nil _⟩⟩⟩⟩⟩⟩⟩⟩

/-- What a grid point leaves in its rows of the rider: the values it was given. -/
theorem out5_eq : out0_A_5 c i arg2 harg2 arg3 harg3 arg4 harg4 arg5 harg5 arg6 harg6 arg7 harg7 arg8 harg8 arg9 harg9 x0 x1 x2 x3 = x3 := by
  unfold out0_A_5
  rw [View.read_writes_junk_eq_canon]
  unfold kernelRun0_A
  dsimp only
  rw [View.canon_unit_zero (S := S128x2048) hz, View.readAt_eq_ld, Memref.IsWhole.read_unread, View.ld_unit_zero (S := S128x2048) hz]
  rfl

end Block

variable (m : (ℓ : Loc nD τ sig) → Buf (Elt Ideal) ℓ)

/-- The block indices: point `t` is row block `t / 11` and column block `t % 11`; the rider's rows are block `t`. -/
theorem idx_facts : ∀ t : Fin cfg0.N, win0_0.index t (0 : Fin 2) = t.val / 11 ∧ win0_0.index t (1 : Fin 2) = 0
    ∧ win0_1.index t (0 : Fin 2) = 0 ∧ win0_1.index t (1 : Fin 2) = t.val % 11
    ∧ win0_2.index t (0 : Fin 2) = 0 ∧ win0_2.index t (1 : Fin 2) = t.val % 11
    ∧ win0_3.index t (0 : Fin 2) = t.val ∧ win0_3.index t (1 : Fin 2) = 0
    ∧ win0_4.index t (0 : Fin 2) = t.val / 11 ∧ win0_4.index t (1 : Fin 2) = t.val % 11
    ∧ win0_5.index t (0 : Fin 2) = t.val ∧ win0_5.index t (1 : Fin 2) = 0 :=
  (by decide +kernel : ∀ t : Fin grid0.N, _)

/-- The row of the arrays that is row `r` of point `t`'s block, and the column that is column `l`. -/
abbrev rowOf (t : Fin cfg0.N) (r : Fin 2048) : Fin 8192 := ⟨2048 * (t.val / 11) + r, by have := t.isLt; have : cfg0.N = 44 := rfl; omega⟩
abbrev colOf (t : Fin cfg0.N) (l : Fin 512) : Fin 5632 := ⟨512 * (t.val % 11) + l, by omega⟩
/-- The rider's row that is row `r` of point `t`'s block. -/
abbrev riderOf (t : Fin cfg0.N) (r : Fin 128) : Fin 5632 := ⟨128 * t.val + r, by have := t.isLt; have : cfg0.N = 44 := rfl; omega⟩

theorem emb0 (t : Fin cfg0.N) (r : Fin 2048) (l : Fin 2048) : ((cfg0.win 0).blk t).view.emb (ix2 r l) = ix2 (rowOf t r) l := by
  have h := idx_facts t
  funext d; apply Fin.ext
  match d with
  | ⟨0, _⟩ => show win0_0.index t (0 : Fin 2) * 2048 + 1 * r.val = 2048 * (t.val / 11) + r.val; omega
  | ⟨1, _⟩ => show win0_0.index t (1 : Fin 2) * 2048 + 1 * l.val = l.val; omega

theorem emb1 (t : Fin cfg0.N) (r : Fin 2048) (l : Fin 512) : ((cfg0.win 1).blk t).view.emb (ix2 r l) = ix2 r (colOf t l) := by
  have h := idx_facts t
  funext d; apply Fin.ext
  match d with
  | ⟨0, _⟩ => show win0_1.index t (0 : Fin 2) * 2048 + 1 * r.val = r.val; omega
  | ⟨1, _⟩ => show win0_1.index t (1 : Fin 2) * 512 + 1 * l.val = 512 * (t.val % 11) + l.val; omega

theorem emb2 (t : Fin cfg0.N) (r : Fin 2048) (l : Fin 512) : ((cfg0.win 2).blk t).view.emb (ix2 r l) = ix2 r (colOf t l) := by
  have h := idx_facts t
  funext d; apply Fin.ext
  match d with
  | ⟨0, _⟩ => show win0_2.index t (0 : Fin 2) * 2048 + 1 * r.val = r.val; omega
  | ⟨1, _⟩ => show win0_2.index t (1 : Fin 2) * 512 + 1 * l.val = 512 * (t.val % 11) + l.val; omega

theorem emb3 (t : Fin cfg0.N) (r : Fin 128) (l : Fin 2048) : ((cfg0.win 3).blk t).view.emb (ix2 r l) = ix2 (riderOf t r) l := by
  have h := idx_facts t
  funext d; apply Fin.ext
  match d with
  | ⟨0, _⟩ => show win0_3.index t (0 : Fin 2) * 128 + 1 * r.val = 128 * t.val + r.val; omega
  | ⟨1, _⟩ => show win0_3.index t (1 : Fin 2) * 2048 + 1 * l.val = l.val; omega

theorem emb4 (t : Fin cfg0.N) (r : Fin 2048) (l : Fin 512) : ((cfg0.win 4).blk t).view.emb (ix2 r l) = ix2 (rowOf t r) (colOf t l) := by
  have h := idx_facts t
  funext d; apply Fin.ext
  match d with
  | ⟨0, _⟩ => show win0_4.index t (0 : Fin 2) * 2048 + 1 * r.val = 2048 * (t.val / 11) + r.val; omega
  | ⟨1, _⟩ => show win0_4.index t (1 : Fin 2) * 512 + 1 * l.val = 512 * (t.val % 11) + l.val; omega

theorem emb5 (t : Fin cfg0.N) (r : Fin 128) (l : Fin 2048) : ((cfg0.win 5).blk t).view.emb (ix2 r l) = ix2 (riderOf t r) l := by
  have h := idx_facts t
  funext d; apply Fin.ext
  match d with
  | ⟨0, _⟩ => show win0_5.index t (0 : Fin 2) * 128 + 1 * r.val = 128 * t.val + r.val; omega
  | ⟨1, _⟩ => show win0_5.index t (1 : Fin 2) * 2048 + 1 * l.val = l.val; omega

/-- The gated product as a function of the arguments. -/
def result (a0 : Vec Ideal S8192x2048 .bf16) (a1 a2 : Vec Ideal S2048x5632 .f32) : Vec Ideal S8192x5632 .bf16 := fun i =>
  gatedAt (fun i k => a0 (ix2 i k)) (fun k l => a1 (ix2 k l)) (fun k l => a2 (ix2 k l)) (i 0) (i 1)

/-- The result the arguments of core `c` give. -/
abbrev resultOf (c : Dev nD) : Vec Ideal S8192x5632 .bf16 :=
  result (m ((c : Thread nD τ).loc main_arg0)) (m ((c : Thread nD τ).loc main_arg1)) (m ((c : Thread nD τ).loc main_arg2))

theorem flushed4_eq (c : Dev nD) (t : Fin cfg0.N) :
    (dats m 0 c).flushed 4 t = ((cfg0.win 4).blk t).view.read (Elt Ideal) (resultOf m c) := by
  rw [flushed4_A, out4_eq]
  funext j
  show blockOf (iblk m c 0 t) (iblk m c 1 t) (iblk m c 2 t) j = resultOf m c (((cfg0.win 4).blk t).view.emb j)
  idx_vars j
  rw [emb4]
  have h0 : ∀ k, iblk m c 0 t (ix2 j0 k) = m ((c : Thread nD τ).loc main_arg0) (ix2 (rowOf t j0) k) := fun k => by
    show V m c main_arg0 (((cfg0.win 0).blk t).view.emb (ix2 j0 k)) = _; rw [emb0, V_main_arg0]
  have h1 : ∀ k, iblk m c 1 t (ix2 k j1) = m ((c : Thread nD τ).loc main_arg1) (ix2 k (colOf t j1)) := fun k => by
    show V m c main_arg1 (((cfg0.win 1).blk t).view.emb (ix2 k j1)) = _; rw [emb1, V_main_arg1]
  have h2 : ∀ k, iblk m c 2 t (ix2 k j1) = m ((c : Thread nD τ).loc main_arg2) (ix2 k (colOf t j1)) := fun k => by
    show V m c main_arg2 (((cfg0.win 2).blk t).view.emb (ix2 k j1)) = _; rw [emb2, V_main_arg2]
  show gatedAt _ _ _ j0 j1 = gatedAt _ _ _ (rowOf t j0) (colOf t j1)
  unfold gatedAt
  simp only [h0, h1, h2]

theorem flushed5_eq (c : Dev nD) (t : Fin cfg0.N) :
    (dats m 0 c).flushed 5 t = ((cfg0.win 5).blk t).view.read (Elt Ideal) (m ((c : Thread nD τ).loc main_arg3) : Vec Ideal S5632x2048 .f32) := by
  rw [flushed5_A, out5_eq]
  funext j
  show V m c main_arg3 (((cfg0.win 3).blk t).view.emb j) = m ((c : Thread nD τ).loc main_arg3) (((cfg0.win 5).blk t).view.emb j)
  idx_vars j
  rw [emb3, emb5, V_main_arg3]

/-- Every element of the two result arrays is in some point's block. -/
theorem covered4 (i : S8192x5632.Idx) : ∃ t : Fin cfg0.N, (cfg0.win 4).flush t = true ∧ i ∈ ((cfg0.win 4).blk t).view.set := by
  idx_vars i
  obtain ⟨t, ht⟩ : ∃ t : Fin cfg0.N, t.val = 11 * (i0.val / 2048) + i1.val / 512 :=
    ⟨⟨11 * (i0.val / 2048) + i1.val / 512, by show _ < 44; omega⟩, rfl⟩
  refine ⟨t, flush0_4 _, ?_⟩
  have h := ((cfg0.win 4).blk t).view.emb_mem_set (ix2 (⟨i0.val % 2048, by omega⟩ : Fin 2048) (⟨i1.val % 512, by omega⟩ : Fin 512))
  rw [emb4] at h
  have e0 : rowOf t ⟨i0.val % 2048, by omega⟩ = i0 := Fin.ext (by show 2048 * (t.val / 11) + i0.val % 2048 = i0.val; omega)
  have e1 : colOf t ⟨i1.val % 512, by omega⟩ = i1 := Fin.ext (by show 512 * (t.val % 11) + i1.val % 512 = i1.val; omega)
  rwa [e0, e1] at h

theorem covered5 (i : S5632x2048.Idx) : ∃ t : Fin cfg0.N, (cfg0.win 5).flush t = true ∧ i ∈ ((cfg0.win 5).blk t).view.set := by
  idx_vars i
  obtain ⟨t, ht⟩ : ∃ t : Fin cfg0.N, t.val = i0.val / 128 := ⟨⟨i0.val / 128, by show _ < 44; omega⟩, rfl⟩
  refine ⟨t, flush0_5 _, ?_⟩
  have h := ((cfg0.win 5).blk t).view.emb_mem_set (ix2 (⟨i0.val % 128, by omega⟩ : Fin 128) i1)
  rw [emb5] at h
  have e0 : riderOf t ⟨i0.val % 128, by omega⟩ = i0 := Fin.ext (by show 128 * t.val + i0.val % 128 = i0.val; omega)
  rwa [e0] at h

/-- The two result arrays after the run. -/
theorem final4 (c : Dev nD) : (dats m 0 c).arrAt 4 cfg0.N = resultOf m c :=
  (dats m 0 c).arrAt_eq_of_cover 4 (resultOf m c) (fun t _ => flushed4_eq m c t) covered4

theorem final5 (c : Dev nD) : (dats m 0 c).arrAt 5 cfg0.N = (m ((c : Thread nD τ).loc main_arg3) : Vec Ideal S5632x2048 .f32) :=
  (dats m 0 c).arrAt_eq_of_cover 5 (m ((c : Thread nD τ).loc main_arg3) : Vec Ideal S5632x2048 .f32) (fun t _ => flushed5_eq m c t) covered5

theorem real_of_abs_lt {x : EReal} (h : max x (-x) < ⊤) : ∃ r : ℝ, x = (r : EReal) := by
  rw [max_lt_iff] at h
  induction x with
  | bot => simp at h
  | top => simp at h
  | coe r => exact ⟨r, rfl⟩

/-- The gate's argument is a real number wherever its absolute value is below infinity. -/
theorem gate_real (a0 : Vec Ideal S8192x2048 .bf16) (a1 a2 : Vec Ideal S2048x5632 .f32) (a3 : Vec Ideal S5632x2048 .f32)
    (h : Cert.Pre_finite_gate.fn (F := Ideal) a0 a1 a2 a3 = fun _ => 1#1) (i : Fin 8192) (l : Fin 5632) :
    ∃ r : ℝ, ∑ k : Fin 2048, a0 (ix2 i k) * a1 (ix2 k l) = (r : EReal) := by
  have h := congrFun h (ix2 i l)
  revert h
  pointwise [Cert.Pre_finite_gate.fn]
  generalize (∑ k : Fin 2048, a0 (ix2 i k) * a1 (ix2 k l)) = x
  rw [show Ideal.ofBits .f32 2139095040#32 = ⊤ by simp [Ideal.ofBits, Ideal.ieee]]
  intro h
  have h : max x (-x) < ⊤ := of_decide_eq_true (by
    by_contra hn
    rw [Bool.not_eq_true] at hn
    exact absurd (h.symm.trans (congrArg BitVec.ofBool hn)) (by decide))
  exact real_of_abs_lt h

/-- The reference's first result, the gate's argument being finite everywhere. -/
theorem reference_eq (a0 : Vec Ideal S8192x2048 .bf16) (a1 a2 : Vec Ideal S2048x5632 .f32)
    (h : ∀ (i : Fin 8192) (l : Fin 5632), ∃ r : ℝ, ∑ k : Fin 2048, a0 (ix2 i k) * a1 (ix2 k l) = (r : EReal)) :
    Cert.UpReferenceIdeal.Read.val_main_v5 a0 a1 a2 = result a0 a1 a2 := by
  funext i
  idx_vars i
  show _ = gate (∑ k : Fin 2048, a0 (ix2 i0 k) * a1 (ix2 k i1)) * ∑ k : Fin 2048, a0 (ix2 i0 k) * a2 (ix2 k i1)
  rw [show gate (∑ k : Fin 2048, a0 (ix2 i0 k) * a1 (ix2 k i1)) = silu (∑ k : Fin 2048, a0 (ix2 i0 k) * a1 (ix2 k i1)) by
    obtain ⟨r, hr⟩ := h i0 i1; rw [hr, gate_eq], silu]
  pointwise [Cert.UpReferenceIdeal.Read.val_main_v5, Cert.UpReferenceIdeal.Read.val_main_v4, Cert.UpReferenceIdeal.Read.val_main_v3, Cert.UpReferenceIdeal.Read.val_main_v2, Cert.UpReferenceIdeal.Read.val_main_call0_v5, Cert.UpReferenceIdeal.Read.val_main_call0_v4, Cert.UpReferenceIdeal.Read.val_main_call0_cst_0, Cert.UpReferenceIdeal.Read.val_main_call0_v3, Cert.UpReferenceIdeal.Read.val_main_call0_v2, Cert.UpReferenceIdeal.Read.val_main_call0_cst, Cert.UpReferenceIdeal.Read.val_main_call0_v1, Cert.UpReferenceIdeal.Read.val_main_call0_v0, Cert.UpReferenceIdeal.Read.val_main_v1, Cert.UpReferenceIdeal.Read.val_main_v0]

end Cert.UpMix

end
-- ==== Proof.UpClaims.lean ====
/- THE CLAIMS about the gated product of the feed-forward part: the reference's frame, and the equality of the two results
   at the ideal instance wherever the gate's argument is finite. -/
module

public import proofs.«01_k».proof.Proof.Up
public import proofs.«01_k».proof.Defs

@[expose] public section

noncomputable section

namespace Cert.UpMix

open Idealize.ShloMosaic Idealize.SL.Sem

theorem frame_reference : Cert.quiescent_UpReferenceIdeal := fun m ρ _ =>
  (θ_run Cert.UpReferenceIdeal.defs _ _).mono (fun r h => ⟨fun c => (h c).2.2, Idealize.ShloMosaic.sem_eq_zero_of_no_sems (by decide) r.2⟩)
    (Cert.UpReferenceIdeal.Value.run (F := Ideal) m ρ)

/-- Kernel and reference leave the same two arrays: the gated product of arguments that agree, and the rider's values. -/
theorem algebraic : Cert.algebraic_UpKernelIdeal_UpReferenceIdeal_pre_finite_gate := by
  intro m ρ m' ρ' hpre hagree
  refine ⟨resultOf m, fun c => m ((c.tc : Thread Cert.UpKernelIdeal.nD Cert.UpKernelIdeal.τ).loc Cert.UpKernelIdeal.main_arg3),
    (θ_run Cert.UpKernelIdeal.defs _ _).mono (fun r h c => ⟨(h c).1.trans (final4 m c), (h c).2.1.trans (final5 m c), (h c).2.2⟩)
    (Cert.UpKernelIdeal.Value.run_blocks m ρ), ?_⟩
  refine (θ_run Cert.UpReferenceIdeal.defs _ _).mono (fun r h c => ⟨(h c).1.trans ?_, (h c).2.1.trans ?_, (h c).2.2⟩)
    (Cert.UpReferenceIdeal.Value.run (F := Ideal) m' ρ')
  · obtain ⟨e0, e1, e2, e3⟩ := hagree c
    rw [Cert.UpReferenceIdeal.Read.val_main_v5_eq, e0, e1, e2]
    exact reference_eq _ _ _ (gate_real _ _ _ _ (hpre c))
  · exact (hagree c).2.2.2

end Cert.UpMix

end
-- ==== Proof.Qkv.lean ====
/- THE PROJECTION TO QUERIES, KEYS AND VALUES: what the kernel leaves in its result array is the same function of the
   arguments as the reference. A grid point takes 2048 rows and 768 columns, which are six heads; it stores eight groups of
   256 rows for each head. -/
module

public import proofs.«01_k».proof.Proof.Gen.QkvKernelIdeal.Value
public import proofs.«01_k».proof.Proof.Gen.QkvReferenceIdeal.Run
public import proofs.«01_k».proof.Proof.Gen.QkvReferenceIdeal.Read
public import Idealize.ShloMosaic.Lib.Pointwise

@[expose] public section

noncomputable section

namespace Cert.QkvMix

open Cert.QkvKernelIdeal Cert.QkvKernelIdeal.Gen Cert.QkvKernelIdeal.Value Idealize.ShloMosaic Idealize.ShloMosaic.TcCoe Idealize.SL.Sem

section Block

variable (x0 : Vec Ideal S2048x2048 .bf16) (x1 : Vec Ideal S2048x768 .f32)

/-- A grid point's block: head `a` is 128 columns of the product. -/
def blockOf : Vec Ideal S6x2048x128 .bf16 := fun i =>
  ∑ k : Fin 2048, x0 (ix2 (i 1) k) * x1 (ix2 k (⟨128 * (i 0).val + (i 2).val, by have h0 : (i 0).val < 6 := (i 0).isLt; have h2 : (i 2).val < 128 := (i 2).isLt; show _ < 768; omega⟩ : Fin 768))

theorem blockOf_ix3 (a : Fin 6) (i : Fin 2048) (l : Fin 128) : blockOf x0 x1 (ix3 a i l)
    = ∑ k : Fin 2048, x0 (ix2 i k) * x1 (ix2 k (⟨128 * a + l, by omega⟩ : Fin 768)) := rfl

/-- Row `r` of the 256 rows of head `n` from row `o` on is the block's row `o + r` of head `n`. -/
theorem emb_ix3 (n o : ℕ) (hn : n < 6) (ho : o + 256 ≤ 2048) {h} (z : Fin 1) (r : Fin 256) (l : Fin 128) :
    (Rect.unit (s := S6x2048x128) ![n, o, 0] S1x256x128.size h).emb (ix3 z r l) = ix3 (⟨n, hn⟩ : Fin 6) (⟨o + r, by omega⟩ : Fin 2048) l := by
  funext a; apply Fin.ext
  match a with
  | ⟨0, _⟩ => show n + 1 * z.val = n; omega
  | ⟨1, _⟩ => show o + 1 * r.val = o + r.val; omega
  | ⟨2, _⟩ => show 0 + 1 * l.val = l.val; omega

/-- The block at that index, with its sum written out. -/
theorem blockOf_emb (n o : ℕ) (hn : n < 6) (ho : o + 256 ≤ 2048) {h} (z : Fin 1) (r : Fin 256) (l : Fin 128) :
    blockOf x0 x1 ((Rect.unit (s := S6x2048x128) ![n, o, 0] S1x256x128.size h).emb (ix3 z r l))
      = ∑ k : Fin 2048, x0 (ix2 (⟨o + r, by omega⟩ : Fin 2048) k) * x1 (ix2 k (⟨128 * n + l, by omega⟩ : Fin 768)) := by
  rw [emb_ix3 n o hn ho]; rfl

variable (c : Dev nD) (i : grid0.Coords) (arg2 : Memref sig .tc .vmem S2048x2048 .bf16) (harg2 : arg2.IsWhole) (arg3 : Memref sig .tc .vmem S2048x768 .f32) (harg3 : arg3.IsWhole) (arg4 : Memref sig .tc .vmem S6x2048x128 .bf16) (harg4 : arg4.IsWhole) (arg5 : Memref sig .tc .vmem S2048x768 .bf16) (harg5 : arg5.IsWhole)

theorem hz : (![0, 0] : Fin 2 → Nat) = fun _ => 0 := funext fun a => by fin_cases a <;> rfl

/-- What a grid point leaves in its block. -/
theorem out2_eq : out0_A_2 c i arg2 harg2 arg3 harg3 arg4 harg4 arg5 harg5 x0 x1 = blockOf x0 x1 := by
  funext y
  unfold out0_A_2
  rw [View.read_writes_junk_eq_canon]
  refine View.canon_apply_of_pieces (blockOf x0 x1) _ ?_ y (cover0_A_2 ..)
  unfold kernelRun0_A
  dsimp only
  sl_unfold_words
  simp only [View.readAt_eq_ld, Memref.IsWhole.read_unread, View.readCov_unit_zero (S := S2048x768) _ hz, View.ld_unit_zero (S := S2048x768) hz]
  repeat' refine List.forall_mem_cons.mpr ⟨?_, ?_⟩
  all_goals first
    | exact List.forall_mem_nil _
    | intro j
      dsimp only
      idx_vars j
      refine Eq.trans ?_ (blockOf_emb x0 x1 _ _ (by decide) (by decide) _ _ _).symm
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59]

end Block

variable (m : (ℓ : Loc nD τ sig) → Buf (Elt Ideal) ℓ)

/-- Grid point `t`: row block `t / 6`, head block `t % 6`. -/
theorem idx_facts : ∀ t : Fin cfg0.N, win0_0.index t (0 : Fin 2) = t.val / 6 ∧ win0_0.index t (1 : Fin 2) = 0
    ∧ win0_1.index t (0 : Fin 2) = 0 ∧ win0_1.index t (1 : Fin 2) = t.val % 6
    ∧ win0_2.index t (0 : Fin 3) = t.val % 6 ∧ win0_2.index t (1 : Fin 3) = t.val / 6 ∧ win0_2.index t (2 : Fin 3) = 0 :=
  (by decide +kernel : ∀ t : Fin grid0.N, _)

/-- The whole result array as a function of the arguments: head `a` of the result is 128 columns of the product. -/
def result (a0 : Vec Ideal S8192x2048 .bf16) (a1 : Vec Ideal S2048x12800 .f32) : Vec Ideal S36x8192x128 .bf16 := fun i =>
  ∑ k : Fin 2048, a0 (ix2 (i 1) k) * a1 (ix2 k (⟨(i 0).val * 128 + (i 2).val, by have h0 : (i 0).val < 36 := (i 0).isLt; have h2 : (i 2).val < 128 := (i 2).isLt; show _ < 12800; omega⟩ : Fin 12800))

theorem result_ix3 (a0 : Vec Ideal S8192x2048 .bf16) (a1 : Vec Ideal S2048x12800 .f32) (a : Fin 36) (i : Fin 8192) (l : Fin 128) :
    result a0 a1 (ix3 a i l) = ∑ k : Fin 2048, a0 (ix2 i k) * a1 (ix2 k (⟨a * 128 + l, by omega⟩ : Fin 12800)) := rfl

theorem reference_eq (a0 : Vec Ideal S8192x2048 .bf16) (a1 : Vec Ideal S2048x12800 .f32) :
    Cert.QkvReferenceIdeal.Read.val_main_v5 a0 a1 = result a0 a1 := by
  funext i
  idx_vars i
  rw [result_ix3]
  pointwise [Cert.QkvReferenceIdeal.Read.val_main_v5, Cert.QkvReferenceIdeal.Read.val_main_v4, Cert.QkvReferenceIdeal.Read.val_main_v3, Cert.QkvReferenceIdeal.Read.val_main_v2, Cert.QkvReferenceIdeal.Read.val_main_v1, Cert.QkvReferenceIdeal.Read.val_main_v0]

/-- A grid point's block of each array, index by index. -/
theorem emb0 (t : Fin cfg0.N) (r : Fin 2048) (k : Fin 2048) :
    ((cfg0.win 0).blk t).view.emb (ix2 r k) = ix2 (⟨2048 * (t.val / 6) + r, by have := t.isLt; have : cfg0.N = 24 := rfl; omega⟩ : Fin 8192) k := by
  obtain ⟨e0, e1, -⟩ := idx_facts t
  funext a; apply Fin.ext
  match a with
  | ⟨0, _⟩ => show win0_0.index t (0 : Fin 2) * 2048 + 1 * r.val = 2048 * (t.val / 6) + r.val; omega
  | ⟨1, _⟩ => show win0_0.index t (1 : Fin 2) * 2048 + 1 * k.val = k.val; omega

theorem emb2 (t : Fin cfg0.N) (n : Fin 6) (r : Fin 2048) (l : Fin 128) :
    ((cfg0.win 2).blk t).view.emb (ix3 n r l) = ix3 (⟨6 * (t.val % 6) + n, by omega⟩ : Fin 36)
      (⟨2048 * (t.val / 6) + r, by have := t.isLt; have : cfg0.N = 24 := rfl; omega⟩ : Fin 8192) l := by
  obtain ⟨-, -, -, -, e0, e1, e2⟩ := idx_facts t
  funext a; apply Fin.ext
  match a with
  | ⟨0, _⟩ => show win0_2.index t (0 : Fin 3) * 6 + 1 * n.val = 6 * (t.val % 6) + n.val; omega
  | ⟨1, _⟩ => show win0_2.index t (1 : Fin 3) * 2048 + 1 * r.val = 2048 * (t.val / 6) + r.val; omega
  | ⟨2, _⟩ => show win0_2.index t (2 : Fin 3) * 128 + 1 * l.val = l.val; omega

/-- The block of the weights at point `t`: 768 columns from column `768 (t % 6)` on. -/
theorem weights (c : Dev nD) (t : Fin cfg0.N) (k : Fin 2048) (l : Fin 768) :
    X0_1 m c t (ix2 k l) = m ((c : Thread nD τ).loc main_arg1) (ix2 k (⟨768 * (t.val % 6) + l, by omega⟩ : Fin 12800)) := by
  obtain ⟨-, -, e0, e1, -⟩ := idx_facts t
  unfold X0_1 Pipeline.Window.fill
  rw [dif_pos (moved0_1 t (ix2 k l))]
  show V m c main_arg1 (((cfg0.win 1).blk t).view.emb _) = _
  rw [V_main_arg1]
  congr 1
  funext a; apply Fin.ext
  match a with
  | ⟨0, _⟩ => show win0_1.index t (0 : Fin 2) * 2048 + 1 * k.val = k.val; omega
  | ⟨1, _⟩ => show win0_1.index t (1 : Fin 2) * 768 + 1 * l.val = 768 * (t.val % 6) + l.val; omega

/-- The arguments of core `c`, and the result they give. -/
abbrev resultOf (c : Dev nD) : Vec Ideal S36x8192x128 .bf16 :=
  result (m ((c : Thread nD τ).loc main_arg0)) (m ((c : Thread nD τ).loc main_arg1))

/-- What a grid point writes back is its block of the result. -/
theorem flushed_eq (c : Dev nD) (t : Fin cfg0.N) :
    (dats m 0 c).flushed 2 t = ((cfg0.win 2).blk t).view.read (Elt Ideal) (resultOf m c) := by
  rw [flushed2_A, out2_eq]
  funext j
  show blockOf (iblk m c 0 t) (X0_1 m c t) j = resultOf m c (((cfg0.win 2).blk t).view.emb j)
  idx_vars j
  rw [emb2]
  have h0 : ∀ k, iblk m c 0 t (ix2 j1 k) = m ((c : Thread nD τ).loc main_arg0) (ix2 (⟨2048 * (t.val / 6) + j1, by have := t.isLt; have : cfg0.N = 24 := rfl; omega⟩ : Fin 8192) k) := fun k => by
    show V m c main_arg0 (((cfg0.win 0).blk t).view.emb (ix2 j1 k)) = _; rw [emb0, V_main_arg0]
  show _ = result _ _ (ix3 _ _ _)
  rw [blockOf_ix3, result_ix3]
  refine Finset.sum_congr rfl fun k _ => ?_
  rw [h0, weights]
  congr 3
  apply Fin.ext
  show 768 * (t.val % 6) + (128 * j0.val + j2.val) = (6 * (t.val % 6) + j0.val) * 128 + j2.val
  omega

/-- Every index of the result is in some block. -/
theorem covered (i : S36x8192x128.Idx) : ∃ t : Fin cfg0.N, (cfg0.win 2).flush t = true ∧ i ∈ ((cfg0.win 2).blk t).view.set := by
  idx_vars i
  refine ⟨⟨i1.val / 2048 * 6 + i0.val / 6, by show _ < 24; omega⟩, flush0_2 _, ?_⟩
  have h := ((cfg0.win 2).blk ⟨i1.val / 2048 * 6 + i0.val / 6, by show _ < 24; omega⟩).view.emb_mem_set
    (ix3 (⟨i0.val % 6, by omega⟩ : Fin 6) (⟨i1.val % 2048, by omega⟩ : Fin 2048) i2)
  rw [emb2] at h
  have e0 : (⟨6 * ((i1.val / 2048 * 6 + i0.val / 6) % 6) + i0.val % 6, by omega⟩ : Fin 36) = i0 := Fin.ext (by show 6 * ((i1.val / 2048 * 6 + i0.val / 6) % 6) + i0.val % 6 = i0.val; omega)
  have e1 : (⟨2048 * ((i1.val / 2048 * 6 + i0.val / 6) / 6) + i1.val % 2048, by omega⟩ : Fin 8192) = i1 := Fin.ext (by show 2048 * ((i1.val / 2048 * 6 + i0.val / 6) / 6) + i1.val % 2048 = i1.val; omega)
  rwa [e0, e1] at h

/-- The result array after the run. -/
theorem final (c : Dev nD) : (dats m 0 c).arrAt 2 cfg0.N = resultOf m c :=
  (dats m 0 c).arrAt_eq_of_cover 2 (resultOf m c) (fun t _ => flushed_eq m c t) covered

end Cert.QkvMix

end
-- ==== Proof.QkvClaims.lean ====
/- THE CLAIMS about the projection to queries, keys and values: the reference's frame, and the equality of the two results
   at the ideal instance. -/
module

public import proofs.«01_k».proof.Proof.Qkv
public import proofs.«01_k».proof.Defs

@[expose] public section

noncomputable section

namespace Cert.QkvMix

open Idealize.ShloMosaic Idealize.SL.Sem

theorem frame_reference : Cert.quiescent_QkvReferenceIdeal := fun m ρ _ =>
  (θ_run Cert.QkvReferenceIdeal.defs _ _).mono (fun r h => ⟨fun c => (h c).2, Idealize.ShloMosaic.sem_eq_zero_of_no_sems (by decide) r.2⟩)
    (Cert.QkvReferenceIdeal.Value.run (F := Ideal) m ρ)

/-- Kernel and reference leave the same array: each the product of its arguments, head by head. -/
theorem algebraic : Cert.algebraic_QkvKernelIdeal_QkvReferenceIdeal := by
  intro m ρ m' ρ' _ hagree
  refine ⟨resultOf m, (θ_run Cert.QkvKernelIdeal.defs _ _).mono (fun r h c => ⟨(h c).1.trans (final m c), (h c).2⟩)
    (Cert.QkvKernelIdeal.Value.run_blocks m ρ), ?_⟩
  refine (θ_run Cert.QkvReferenceIdeal.defs _ _).mono (fun r h c => ⟨(h c).1.trans ?_, (h c).2⟩)
    (Cert.QkvReferenceIdeal.Value.run (F := Ideal) m' ρ')
  obtain ⟨e0, e1⟩ := hagree c
  rw [Cert.QkvReferenceIdeal.Read.val_main_v5_eq, e0, e1]
  exact reference_eq _ _

end Cert.QkvMix

end
-- ==== Proof.MergeBlock.lean ====
/- THE GATED MERGE, BLOCK BY BLOCK: what a grid point leaves in its block of the result, in the four copies of the
   weights it keeps, and in the blocks of the four matrices it passes through. A point's block has 1024 rows and 512
   columns, in four groups of 256 rows. The first point of a column block copies the weights; the others use the copies. -/
module

public import proofs.«01_k».proof.Proof.Gen.MergeKernelIdeal.Value
public import Idealize.ShloMosaic.Lib.Pointwise

@[expose] public section

noncomputable section

namespace Cert.MergeMix

open Cert.MergeKernelIdeal Cert.MergeKernelIdeal.Gen Cert.MergeKernelIdeal.Value Idealize.ShloMosaic Idealize.ShloMosaic.TcCoe Idealize.SL.Sem

/-- The logistic function as the kernel writes it. -/
def logi (x : EReal) : EReal :=
  Ideal.ofBits .f32 1056964608#32 * Ideal.tanh (Ideal.ofBits .f32 1056964608#32 * x) + Ideal.ofBits .f32 1056964608#32

/-- The same numbers, held in the narrower format. -/
def narrow {s : Shape} (v : Vec Ideal s .f32) : Vec Ideal s .bf16 := fun i => v i

section Block

/-- A grid point's block of the merge: the two projections, each scaled by its gate, added. -/
def blockOf (x0 : Vec Ideal S1024x2048 .bf16) (x1 : Vec Ideal S1024x512 .bf16) (x2 : Vec Ideal S1024x1024 .bf16)
    (s0 s1 : Vec Ideal S2048x512 .bf16) (s2 : Vec Ideal S512x512 .bf16) (s3 : Vec Ideal S1024x512 .bf16) : Vec Ideal S1024x512 .bf16 := fun i =>
  logi (∑ k : Fin 2048, x0 (ix2 (i 0) k) * s0 (ix2 k (i 1))) * (∑ k : Fin 512, x1 (ix2 (i 0) k) * s2 (ix2 k (i 1)))
    + logi (∑ k : Fin 2048, x0 (ix2 (i 0) k) * s1 (ix2 k (i 1))) * (∑ k : Fin 1024, x2 (ix2 (i 0) k) * s3 (ix2 k (i 1)))

theorem blockOf_ix2 (x0 : Vec Ideal S1024x2048 .bf16) (x1 : Vec Ideal S1024x512 .bf16) (x2 : Vec Ideal S1024x1024 .bf16)
    (s0 s1 : Vec Ideal S2048x512 .bf16) (s2 : Vec Ideal S512x512 .bf16) (s3 : Vec Ideal S1024x512 .bf16) (i : Fin 1024) (l : Fin 512) :
    blockOf x0 x1 x2 s0 s1 s2 s3 (ix2 i l)
      = logi (∑ k : Fin 2048, x0 (ix2 i k) * s0 (ix2 k l)) * (∑ k : Fin 512, x1 (ix2 i k) * s2 (ix2 k l))
        + logi (∑ k : Fin 2048, x0 (ix2 i k) * s1 (ix2 k l)) * (∑ k : Fin 1024, x2 (ix2 i k) * s3 (ix2 k l)) := rfl

/-- Row `r` of the 256 rows from row `o` on is the block's row `o + r`. -/
theorem emb_ix2 (o : ℕ) (ho : o + 256 ≤ 1024) {h} (r : Fin 256) (l : Fin 512) :
    (Rect.unit (s := S1024x512) ![o, 0] S256x512.size h).emb (ix2 r l) = ix2 (⟨o + r, by omega⟩ : Fin 1024) l := by
  funext a; apply Fin.ext
  match a with
  | ⟨0, _⟩ => show o + 1 * r.val = o + r.val; omega
  | ⟨1, _⟩ => show 0 + 1 * l.val = l.val; omega

theorem hz : (![0, 0] : Fin 2 → Nat) = fun _ => 0 := funext fun a => by fin_cases a <;> rfl

theorem copy6 (v : Vec Ideal S2048x512 .f32) : k0_pay6 v = narrow v := by
  funext j
  idx_vars j
  pointwise [k0_pay6, narrow]

theorem copy7 (v : Vec Ideal S2048x512 .f32) : k0_pay7 v = narrow v := by
  funext j
  idx_vars j
  pointwise [k0_pay7, narrow]

theorem copy8 (v : Vec Ideal S512x512 .f32) : k0_pay8 v = narrow v := by
  funext j
  idx_vars j
  pointwise [k0_pay8, narrow]

theorem copy9 (v : Vec Ideal S1024x512 .f32) : k0_pay9 v = narrow v := by
  funext j
  idx_vars j
  pointwise [k0_pay9, narrow]

variable (c : Dev nD) (i : grid0.Coords) (arg2 : Memref sig .tc .vmem S1024x2048 .bf16) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S2048x512 .f32) (harg5 : arg5.IsWhole) (arg6 : Memref sig .tc .vmem S2048x512 .f32) (harg6 : arg6.IsWhole) (arg7 : Memref sig .tc .vmem S512x512 .f32) (harg7 : arg7.IsWhole) (arg8 : Memref sig .tc .vmem S1024x512 .f32) (harg8 : arg8.IsWhole) (arg9 : Memref sig .tc .vmem S64x2048 .f32) (harg9 : arg9.IsWhole) (arg10 : Memref sig .tc .vmem S64x512 .f32) (harg10 : arg10.IsWhole) (arg11 : Memref sig .tc .vmem S64x1024 .f32) (harg11 : arg11.IsWhole) (arg12 : Memref sig .tc .vmem S16x2048 .f32) (harg12 : arg12.IsWhole) (arg13 : Memref sig .tc .vmem S1024x512 .bf16) (harg13 : arg13.IsWhole) (arg14 : Memref sig .tc .vmem S64x2048 .bf16) (harg14 : arg14.IsWhole) (arg15 : Memref sig .tc .vmem S64x512 .bf16) (harg15 : arg15.IsWhole) (arg16 : Memref sig .tc .vmem S64x1024 .bf16) (harg16 : arg16.IsWhole) (arg17 : Memref sig .tc .vmem S16x2048 .bf16) (harg17 : arg17.IsWhole) (arg18 : Memref sig .tc .vmem S2048x512 .bf16) (harg18 : arg18.IsWhole) (arg19 : Memref sig .tc .vmem S2048x512 .bf16) (harg19 : arg19.IsWhole) (arg20 : Memref sig .tc .vmem S512x512 .bf16) (harg20 : arg20.IsWhole) (arg21 : Memref sig .tc .vmem S1024x512 .bf16) (harg21 : arg21.IsWhole)
  (x0 : Vec Ideal S1024x2048 .bf16) (x1 : Vec Ideal S1024x512 .bf16) (x2 : Vec Ideal S1024x1024 .bf16) (x3 : Vec Ideal S2048x512 .f32) (x4 : Vec Ideal S2048x512 .f32) (x5 : Vec Ideal S512x512 .f32) (x6 : Vec Ideal S1024x512 .f32) (x7 : Vec Ideal S64x2048 .f32) (x8 : Vec Ideal S64x512 .f32) (x9 : Vec Ideal S64x1024 .f32) (x10 : Vec Ideal S16x2048 .f32)

/-- What a grid point, the first of its column block, leaves in its block of the result. -/
theorem out11_A (hc0 : cond0_0 i) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 = blockOf x0 x1 x2 (narrow x3) (narrow x4) (narrow x5) (narrow x6) := by
  funext y
  unfold out0_A_11
  rw [View.read_writes_junk_eq_canon]
  refine View.canon_apply_of_pieces (blockOf x0 x1 x2 (narrow x3) (narrow x4) (narrow x5) (narrow x6)) _ ?_ y (cover0_A_11 ..)
  unfold kernelRun0_A
  dsimp only
  sl_unfold_words
  simp only [View.readAt_eq_ld, Memref.IsWhole.read_unread, View.readCov_unit_zero (S := S2048x512) _ hz, View.ld_unit_zero (S := S2048x512) hz, View.readCov_unit_zero (S := S512x512) _ hz, View.ld_unit_zero (S := S512x512) hz, View.readCov_unit_zero (S := S1024x512) _ hz, View.ld_unit_zero (S := S1024x512) hz]
  simp only [copy6, copy7, copy8, copy9]
  repeat' refine List.forall_mem_cons.mpr ⟨?_, ?_⟩
  all_goals first
    | exact List.forall_mem_nil _
    | intro j
      dsimp only
      idx_vars j
      rw [emb_ix2 _ (by decide), blockOf_ix2, logi, logi]
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]

/-- What a grid point, not the first of its column block, leaves in its block of the result. -/
theorem out11_B (hc0 : ¬cond0_0 i) (xs0 xs1 : Vec Ideal S2048x512 .bf16) (xs2 : Vec Ideal S512x512 .bf16) (xs3 : Vec Ideal S1024x512 .bf16) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0 xs1 xs2 xs3 = blockOf x0 x1 x2 xs0 xs1 xs2 xs3 := by
  funext y
  unfold out0_B_11
  rw [View.read_writes_junk_eq_canon]
  refine View.canon_apply_of_pieces (blockOf x0 x1 x2 xs0 xs1 xs2 xs3) _ ?_ y (cover0_B_11 ..)
  unfold kernelRun0_B
  dsimp only
  sl_unfold_words
  simp only [View.readAt_eq_ld, Memref.IsWhole.read_unread, View.readCov_unit_zero (S := S2048x512) _ hz, View.ld_unit_zero (S := S2048x512) hz, View.readCov_unit_zero (S := S512x512) _ hz, View.ld_unit_zero (S := S512x512) hz, View.readCov_unit_zero (S := S1024x512) _ hz, View.ld_unit_zero (S := S1024x512) hz]
  repeat' refine List.forall_mem_cons.mpr ⟨?_, ?_⟩
  all_goals first
    | exact List.forall_mem_nil _
    | intro j
      dsimp only
      idx_vars j
      rw [emb_ix2 _ (by decide), blockOf_ix2, logi, logi]
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]

theorem out12_A (hc0 : cond0_0 i) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 = narrow x7 := by
  unfold out0_A_12
  rw [View.read_writes_junk_eq_canon]
  unfold kernelRun0_A
  dsimp only
  sl_unfold_words
  rw [View.canon_unit_zero (S := S64x2048) hz, View.readAt_eq_ld, Memref.IsWhole.read_unread, View.ld_unit_zero (S := S64x2048) hz]
  rfl

theorem out12_B (hc0 : ¬cond0_0 i) (xs0 xs1 : Vec Ideal S2048x512 .bf16) (xs2 : Vec Ideal S512x512 .bf16) (xs3 : Vec Ideal S1024x512 .bf16) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0 xs1 xs2 xs3 = narrow x7 := by
  unfold out0_B_12
  rw [View.read_writes_junk_eq_canon]
  unfold kernelRun0_B
  dsimp only
  sl_unfold_words
  rw [View.canon_unit_zero (S := S64x2048) hz, View.readAt_eq_ld, Memref.IsWhole.read_unread, View.ld_unit_zero (S := S64x2048) hz]
  rfl

theorem out13_A (hc0 : cond0_0 i) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 = narrow x8 := by
  unfold out0_A_13
  rw [View.read_writes_junk_eq_canon]
  unfold kernelRun0_A
  dsimp only
  sl_unfold_words
  rw [View.canon_unit_zero (S := S64x512) hz, View.readAt_eq_ld, Memref.IsWhole.read_unread, View.ld_unit_zero (S := S64x512) hz]
  rfl

theorem out13_B (hc0 : ¬cond0_0 i) (xs0 xs1 : Vec Ideal S2048x512 .bf16) (xs2 : Vec Ideal S512x512 .bf16) (xs3 : Vec Ideal S1024x512 .bf16) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0 xs1 xs2 xs3 = narrow x8 := by
  unfold out0_B_13
  rw [View.read_writes_junk_eq_canon]
  unfold kernelRun0_B
  dsimp only
  sl_unfold_words
  rw [View.canon_unit_zero (S := S64x512) hz, View.readAt_eq_ld, Memref.IsWhole.read_unread, View.ld_unit_zero (S := S64x512) hz]
  rfl

theorem out14_A (hc0 : cond0_0 i) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 = narrow x9 := by
  unfold out0_A_14
  rw [View.read_writes_junk_eq_canon]
  unfold kernelRun0_A
  dsimp only
  sl_unfold_words
  rw [View.canon_unit_zero (S := S64x1024) hz, View.readAt_eq_ld, Memref.IsWhole.read_unread, View.ld_unit_zero (S := S64x1024) hz]
  rfl

theorem out14_B (hc0 : ¬cond0_0 i) (xs0 xs1 : Vec Ideal S2048x512 .bf16) (xs2 : Vec Ideal S512x512 .bf16) (xs3 : Vec Ideal S1024x512 .bf16) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0 xs1 xs2 xs3 = narrow x9 := by
  unfold out0_B_14
  rw [View.read_writes_junk_eq_canon]
  unfold kernelRun0_B
  dsimp only
  sl_unfold_words
  rw [View.canon_unit_zero (S := S64x1024) hz, View.readAt_eq_ld, Memref.IsWhole.read_unread, View.ld_unit_zero (S := S64x1024) hz]
  rfl

theorem out15_A (hc0 : cond0_0 i) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 = narrow x10 := by
  unfold out0_A_15
  rw [View.read_writes_junk_eq_canon]
  unfold kernelRun0_A
  dsimp only
  sl_unfold_words
  rw [View.canon_unit_zero (S := S16x2048) hz, View.readAt_eq_ld, Memref.IsWhole.read_unread, View.ld_unit_zero (S := S16x2048) hz]
  rfl

theorem out15_B (hc0 : ¬cond0_0 i) (xs0 xs1 : Vec Ideal S2048x512 .bf16) (xs2 : Vec Ideal S512x512 .bf16) (xs3 : Vec Ideal S1024x512 .bf16) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0 xs1 xs2 xs3 = narrow x10 := by
  unfold out0_B_15
  rw [View.read_writes_junk_eq_canon]
  unfold kernelRun0_B
  dsimp only
  sl_unfold_words
  rw [View.canon_unit_zero (S := S16x2048) hz, View.readAt_eq_ld, Memref.IsWhole.read_unread, View.ld_unit_zero (S := S16x2048) hz]
  rfl

/-- The first point of a column block leaves its block of the weights in copy 0. -/
theorem left0_A (hc0 : cond0_0 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 = narrow x3 := by
  unfold sout0_A_0
  rw [View.read_writes_junk_eq_canon]
  unfold kernelRun0_A
  dsimp only
  sl_unfold_words
  rw [View.canon_unit_zero (S := S2048x512) hz, View.readAt_eq_ld, Memref.IsWhole.read_unread, View.ld_unit_zero (S := S2048x512) hz]
  exact copy6 _

/-- The first point of a column block leaves its block of the weights in copy 1. -/
theorem left1_A (hc0 : cond0_0 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 = narrow x4 := by
  unfold sout0_A_1
  rw [View.read_writes_junk_eq_canon]
  unfold kernelRun0_A
  dsimp only
  sl_unfold_words
  rw [View.canon_unit_zero (S := S2048x512) hz, View.readAt_eq_ld, Memref.IsWhole.read_unread, View.ld_unit_zero (S := S2048x512) hz]
  exact copy7 _

/-- The first point of a column block leaves its block of the weights in copy 2. -/
theorem left2_A (hc0 : cond0_0 i) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 = narrow x5 := by
  unfold sout0_A_2
  rw [View.read_writes_junk_eq_canon]
  unfold kernelRun0_A
  dsimp only
  sl_unfold_words
  rw [View.canon_unit_zero (S := S512x512) hz, View.readAt_eq_ld, Memref.IsWhole.read_unread, View.ld_unit_zero (S := S512x512) hz]
  exact copy8 _

/-- The first point of a column block leaves its block of the weights in copy 3. -/
theorem left3_A (hc0 : cond0_0 i) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 = narrow x6 := by
  unfold sout0_A_3
  rw [View.read_writes_junk_eq_canon]
  unfold kernelRun0_A
  dsimp only
  sl_unfold_words
  rw [View.canon_unit_zero (S := S1024x512) hz, View.readAt_eq_ld, Memref.IsWhole.read_unread, View.ld_unit_zero (S := S1024x512) hz]
  exact copy9 _

end Block

end Cert.MergeMix

end
-- ==== Proof.Merge.lean ====
/- THE GATED MERGE: what the kernel leaves in its five result arrays is the same function of the arguments as the
   reference. Grid point `t` has column block `t / 8` and row block `t % 8`; the copies of the weights made at the first
   point of a column block stand until the next one. -/
module

public import proofs.«01_k».proof.Proof.MergeBlock
public import proofs.«01_k».proof.Proof.Gen.MergeReferenceIdeal.Run
public import proofs.«01_k».proof.Proof.Gen.MergeReferenceIdeal.Read

@[expose] public section

noncomputable section

namespace Cert.MergeMix

open Cert.MergeKernelIdeal Cert.MergeKernelIdeal.Gen Cert.MergeKernelIdeal.Value Idealize.ShloMosaic Idealize.ShloMosaic.TcCoe Idealize.SL.Sem

theorem half : Ideal.ofBits .f32 1056964608#32 = ((1 / 2 : ℝ) : EReal) := by
  simp [Ideal.ofBits, Ideal.ieee, -EReal.coe_mul]; norm_num

theorem one : Ideal.ofBits .f32 1065353216#32 = ((1 : ℝ) : EReal) := by
  simp [Ideal.ofBits, Ideal.ieee, -EReal.coe_mul]; norm_num

theorem real_sig (x : ℝ) : 1 / 2 * Real.tanh (1 / 2 * x) + 1 / 2 = 1 * (1 + Real.exp (-x))⁻¹ := by
  have h : Real.exp (-x) = Real.exp (-(1 / 2 * x)) * Real.exp (-(1 / 2 * x)) := by rw [← Real.exp_add]; congr 1; ring
  have h1 : Real.exp (1 / 2 * x) * Real.exp (-(1 / 2 * x)) = 1 := by rw [← Real.exp_add]; simp
  have hp := Real.exp_pos (1 / 2 * x)
  have hn := Real.exp_pos (-(1 / 2 * x))
  rw [Real.tanh_eq_sinh_div_cosh, Real.sinh_eq, Real.cosh_eq, h]
  generalize Real.exp (1 / 2 * x) = a at *
  generalize Real.exp (-(1 / 2 * x)) = b at *
  field_simp
  linear_combination (2 * b) * h1

/-- The two ways of writing the logistic function agree at every extended real. -/
theorem logi_eq (x : EReal) : logi x = Ideal.div 1 (1 + Ideal.exp (-x)) := by
  unfold logi
  rw [half]
  induction x with
  | bot =>
    rw [EReal.coe_mul_bot_of_pos (by norm_num), EReal.neg_bot]
    show ((1 / 2 : ℝ) : EReal) * (-1) + ((1 / 2 : ℝ) : EReal) = Ideal.div 1 (1 + ⊤)
    rw [show (-1 : EReal) = ((-1 : ℝ) : EReal) by simp, ← EReal.coe_mul, ← EReal.coe_add]
    rw [show (1 : EReal) + ⊤ = ⊤ from EReal.add_top_of_ne_bot (by decide)]
    simp [Ideal.div]
  | top =>
    rw [EReal.coe_mul_top_of_pos (by norm_num), EReal.neg_top]
    show ((1 / 2 : ℝ) : EReal) * 1 + ((1 / 2 : ℝ) : EReal) = Ideal.div 1 (1 + 0)
    rw [show (1 : EReal) = ((1 : ℝ) : EReal) from rfl, ← EReal.coe_mul, ← EReal.coe_add, add_zero, Ideal.div_coe (by norm_num), ← EReal.coe_mul]
    norm_num
  | coe r =>
    rw [← EReal.coe_mul, Ideal.tanh_coe, ← EReal.coe_neg, Ideal.exp_coe, show (1 : EReal) = ((1 : ℝ) : EReal) from rfl, ← EReal.coe_add,
      Ideal.div_coe (by positivity), ← EReal.coe_mul, ← EReal.coe_mul, ← EReal.coe_add, real_sig]
    simp

/-- The whole merged array as a function of the arguments. -/
def result (a0 : Vec Ideal S8192x2048 .bf16) (a1 : Vec Ideal S8192x512 .bf16) (a2 : Vec Ideal S8192x1024 .bf16) (a3 : Vec Ideal S2048x12800 .f32)
    (a4 : Vec Ideal S512x2048 .f32) (a5 : Vec Ideal S1024x2048 .f32) : Vec Ideal S8192x2048 .bf16 := fun i =>
  logi (∑ k : Fin 2048, a0 (ix2 (i 0) k) * a3 (ix2 k (⟨8704 + (i 1).val, by have h1 : (i 1).val < 2048 := (i 1).isLt; show _ < 12800; omega⟩ : Fin 12800))) * (∑ k : Fin 512, a1 (ix2 (i 0) k) * a4 (ix2 k (i 1)))
    + logi (∑ k : Fin 2048, a0 (ix2 (i 0) k) * a3 (ix2 k (⟨8704 + (2048 + (i 1).val), by have h1 : (i 1).val < 2048 := (i 1).isLt; show _ < 12800; omega⟩ : Fin 12800))) * (∑ k : Fin 1024, a2 (ix2 (i 0) k) * a5 (ix2 k (i 1)))

theorem result_ix2 (a0 : Vec Ideal S8192x2048 .bf16) (a1 : Vec Ideal S8192x512 .bf16) (a2 : Vec Ideal S8192x1024 .bf16) (a3 : Vec Ideal S2048x12800 .f32)
    (a4 : Vec Ideal S512x2048 .f32) (a5 : Vec Ideal S1024x2048 .f32) (i : Fin 8192) (l : Fin 2048) : result a0 a1 a2 a3 a4 a5 (ix2 i l)
      = logi (∑ k : Fin 2048, a0 (ix2 i k) * a3 (ix2 k (⟨8704 + l.val, by omega⟩ : Fin 12800))) * (∑ k : Fin 512, a1 (ix2 i k) * a4 (ix2 k l))
        + logi (∑ k : Fin 2048, a0 (ix2 i k) * a3 (ix2 k (⟨8704 + (2048 + l.val), by omega⟩ : Fin 12800))) * (∑ k : Fin 1024, a2 (ix2 i k) * a5 (ix2 k l)) := rfl

theorem reference_eq (a0 : Vec Ideal S8192x2048 .bf16) (a1 : Vec Ideal S8192x512 .bf16) (a2 : Vec Ideal S8192x1024 .bf16) (a3 : Vec Ideal S2048x12800 .f32)
    (a4 : Vec Ideal S512x2048 .f32) (a5 : Vec Ideal S1024x2048 .f32) :
    Cert.MergeReferenceIdeal.Read.val_main_v18 a0 a1 a2 a3 a4 a5 = result a0 a1 a2 a3 a4 a5 := by
  funext i
  idx_vars i
  rw [result_ix2, logi_eq, logi_eq]
  pointwise [Cert.MergeReferenceIdeal.Read.val_main_v18, Cert.MergeReferenceIdeal.Read.val_main_v17, Cert.MergeReferenceIdeal.Read.val_main_v16, Cert.MergeReferenceIdeal.Read.val_main_v15, Cert.MergeReferenceIdeal.Read.val_main_v14, Cert.MergeReferenceIdeal.Read.val_main_v13, Cert.MergeReferenceIdeal.Read.val_main_v12, Cert.MergeReferenceIdeal.Read.val_main_v11, Cert.MergeReferenceIdeal.Read.val_main_v10, Cert.MergeReferenceIdeal.Read.val_main_v9, Cert.MergeReferenceIdeal.Read.val_main_v8, Cert.MergeReferenceIdeal.Read.val_main_v7, Cert.MergeReferenceIdeal.Read.val_main_cst_0, Cert.MergeReferenceIdeal.Read.val_main_v6, Cert.MergeReferenceIdeal.Read.val_main_v5, Cert.MergeReferenceIdeal.Read.val_main_cst, Cert.MergeReferenceIdeal.Read.val_main_v4, Cert.MergeReferenceIdeal.Read.val_main_v3, Cert.MergeReferenceIdeal.Read.val_main_v2, Cert.MergeReferenceIdeal.Read.val_main_v1, Cert.MergeReferenceIdeal.Read.val_main_v0]

variable (m : (ℓ : Loc nD τ sig) → Buf (Elt Ideal) ℓ)

/-- Where each array's block starts at grid point `t`. -/
theorem idx_rows : ∀ t : Fin cfg0.N, win0_0.index t (0 : Fin 2) = t.val % 8 ∧ win0_0.index t (1 : Fin 2) = 0
    ∧ win0_1.index t (0 : Fin 2) = t.val % 8 ∧ win0_1.index t (1 : Fin 2) = 0
    ∧ win0_2.index t (0 : Fin 2) = t.val % 8 ∧ win0_2.index t (1 : Fin 2) = 0
    ∧ win0_11.index t (0 : Fin 2) = t.val % 8 ∧ win0_11.index t (1 : Fin 2) = t.val / 8 :=
  (by decide +kernel : ∀ t : Fin grid0.N, _)

theorem idx_cols : ∀ t : Fin cfg0.N, win0_3.index t (0 : Fin 2) = 0 ∧ win0_3.index t (1 : Fin 2) = 17 + t.val / 8
    ∧ win0_4.index t (0 : Fin 2) = 0 ∧ win0_4.index t (1 : Fin 2) = 21 + t.val / 8
    ∧ win0_5.index t (0 : Fin 2) = 0 ∧ win0_5.index t (1 : Fin 2) = t.val / 8
    ∧ win0_6.index t (0 : Fin 2) = 0 ∧ win0_6.index t (1 : Fin 2) = t.val / 8 :=
  (by decide +kernel : ∀ t : Fin grid0.N, _)

theorem idx_through : ∀ t : Fin cfg0.N, win0_7.index t = win0_12.index t ∧ win0_8.index t = win0_13.index t
    ∧ win0_9.index t = win0_14.index t ∧ win0_10.index t = win0_15.index t :=
  (by decide +kernel : ∀ t : Fin grid0.N, _)

theorem idx_out : ∀ t : Fin cfg0.N, win0_12.index t (0 : Fin 2) = t.val ∧ win0_12.index t (1 : Fin 2) = 0
    ∧ win0_13.index t (0 : Fin 2) = t.val ∧ win0_13.index t (1 : Fin 2) = 0
    ∧ win0_14.index t (0 : Fin 2) = t.val ∧ win0_14.index t (1 : Fin 2) = 0
    ∧ win0_15.index t (0 : Fin 2) = t.val ∧ win0_15.index t (1 : Fin 2) = 0 :=
  (by decide +kernel : ∀ t : Fin grid0.N, _)

/-- Row `r` of the block of argument 0 at point `t` is row `1024 (t % 8) + r`. -/
theorem block0 (c : Dev nD) (t : Fin cfg0.N) (r : Fin 1024) (k : Fin 2048) :
    iblk m c 0 t (ix2 r k) = m ((c : Thread nD τ).loc main_arg0) (ix2 (⟨1024 * (t.val % 8) + r, by omega⟩ : Fin 8192) k) := by
  obtain ⟨e0, e1, -⟩ := idx_rows t
  show V m c main_arg0 (((cfg0.win 0).blk t).view.emb (ix2 r k)) = _
  rw [V_main_arg0]
  congr 1
  funext a; apply Fin.ext
  match a with
  | ⟨0, _⟩ => show win0_0.index t (0 : Fin 2) * 1024 + 1 * r.val = 1024 * (t.val % 8) + r.val; omega
  | ⟨1, _⟩ => show win0_0.index t (1 : Fin 2) * 2048 + 1 * k.val = k.val; omega

/-- Row `r` of the block of argument 1 at point `t` is row `1024 (t % 8) + r`. -/
theorem block1 (c : Dev nD) (t : Fin cfg0.N) (r : Fin 1024) (k : Fin 512) :
    iblk m c 1 t (ix2 r k) = m ((c : Thread nD τ).loc main_arg1) (ix2 (⟨1024 * (t.val % 8) + r, by omega⟩ : Fin 8192) k) := by
  obtain ⟨-, -, e0, e1, -⟩ := idx_rows t
  show V m c main_arg1 (((cfg0.win 1).blk t).view.emb (ix2 r k)) = _
  rw [V_main_arg1]
  congr 1
  funext a; apply Fin.ext
  match a with
  | ⟨0, _⟩ => show win0_1.index t (0 : Fin 2) * 1024 + 1 * r.val = 1024 * (t.val % 8) + r.val; omega
  | ⟨1, _⟩ => show win0_1.index t (1 : Fin 2) * 512 + 1 * k.val = k.val; omega

/-- Row `r` of the block of argument 2 at point `t` is row `1024 (t % 8) + r`. -/
theorem block2 (c : Dev nD) (t : Fin cfg0.N) (r : Fin 1024) (k : Fin 1024) :
    iblk m c 2 t (ix2 r k) = m ((c : Thread nD τ).loc main_arg2) (ix2 (⟨1024 * (t.val % 8) + r, by omega⟩ : Fin 8192) k) := by
  obtain ⟨-, -, -, -, e0, e1, -⟩ := idx_rows t
  show V m c main_arg2 (((cfg0.win 2).blk t).view.emb (ix2 r k)) = _
  rw [V_main_arg2]
  congr 1
  funext a; apply Fin.ext
  match a with
  | ⟨0, _⟩ => show win0_2.index t (0 : Fin 2) * 1024 + 1 * r.val = 1024 * (t.val % 8) + r.val; omega
  | ⟨1, _⟩ => show win0_2.index t (1 : Fin 2) * 1024 + 1 * k.val = k.val; omega

/-- Column `k` of the block of argument 3 at point `t`. -/
theorem block3 (c : Dev nD) (t : Fin cfg0.N) (r : Fin 2048) (k : Fin 512) :
    iblk m c 3 t (ix2 r k) = m ((c : Thread nD τ).loc main_arg3) (ix2 r (⟨512 * (17 + t.val / 8) + k, by have := t.isLt; have : cfg0.N = 32 := rfl; omega⟩ : Fin 12800)) := by
  obtain ⟨e0, e1, -⟩ := idx_cols t
  show V m c main_arg3 (((cfg0.win 3).blk t).view.emb (ix2 r k)) = _
  rw [V_main_arg3]
  congr 1
  funext a; apply Fin.ext
  match a with
  | ⟨0, _⟩ => show win0_3.index t (0 : Fin 2) * 2048 + 1 * r.val = r.val; omega
  | ⟨1, _⟩ => show win0_3.index t (1 : Fin 2) * 512 + 1 * k.val = 512 * (17 + t.val / 8) + k.val; omega

/-- Column `k` of the block of argument 3 at point `t`. -/
theorem block4 (c : Dev nD) (t : Fin cfg0.N) (r : Fin 2048) (k : Fin 512) :
    iblk m c 4 t (ix2 r k) = m ((c : Thread nD τ).loc main_arg3) (ix2 r (⟨512 * (21 + t.val / 8) + k, by have := t.isLt; have : cfg0.N = 32 := rfl; omega⟩ : Fin 12800)) := by
  obtain ⟨-, -, e0, e1, -⟩ := idx_cols t
  show V m c main_arg3 (((cfg0.win 4).blk t).view.emb (ix2 r k)) = _
  rw [V_main_arg3]
  congr 1
  funext a; apply Fin.ext
  match a with
  | ⟨0, _⟩ => show win0_4.index t (0 : Fin 2) * 2048 + 1 * r.val = r.val; omega
  | ⟨1, _⟩ => show win0_4.index t (1 : Fin 2) * 512 + 1 * k.val = 512 * (21 + t.val / 8) + k.val; omega

/-- Column `k` of the block of argument 4 at point `t`. -/
theorem block5 (c : Dev nD) (t : Fin cfg0.N) (r : Fin 512) (k : Fin 512) :
    iblk m c 5 t (ix2 r k) = m ((c : Thread nD τ).loc main_arg4) (ix2 r (⟨512 * (t.val / 8) + k, by have := t.isLt; have : cfg0.N = 32 := rfl; omega⟩ : Fin 2048)) := by
  obtain ⟨-, -, -, -, e0, e1, -⟩ := idx_cols t
  show V m c main_arg4 (((cfg0.win 5).blk t).view.emb (ix2 r k)) = _
  rw [V_main_arg4]
  congr 1
  funext a; apply Fin.ext
  match a with
  | ⟨0, _⟩ => show win0_5.index t (0 : Fin 2) * 512 + 1 * r.val = r.val; omega
  | ⟨1, _⟩ => show win0_5.index t (1 : Fin 2) * 512 + 1 * k.val = 512 * (t.val / 8) + k.val; omega

/-- Column `k` of the block of argument 5 at point `t`. -/
theorem block6 (c : Dev nD) (t : Fin cfg0.N) (r : Fin 1024) (k : Fin 512) :
    iblk m c 6 t (ix2 r k) = m ((c : Thread nD τ).loc main_arg5) (ix2 r (⟨512 * (t.val / 8) + k, by have := t.isLt; have : cfg0.N = 32 := rfl; omega⟩ : Fin 2048)) := by
  obtain ⟨-, -, -, -, -, -, e0, e1⟩ := idx_cols t
  show V m c main_arg5 (((cfg0.win 6).blk t).view.emb (ix2 r k)) = _
  rw [V_main_arg5]
  congr 1
  funext a; apply Fin.ext
  match a with
  | ⟨0, _⟩ => show win0_6.index t (0 : Fin 2) * 1024 + 1 * r.val = r.val; omega
  | ⟨1, _⟩ => show win0_6.index t (1 : Fin 2) * 512 + 1 * k.val = 512 * (t.val / 8) + k.val; omega

/-- The block of the weights is the same all through a column block. -/
theorem same3 (c : Dev nD) (t t' : Fin cfg0.N) (h : t.val / 8 = t'.val / 8) : iblk m c 3 t = iblk m c 3 t' := by
  funext j
  idx_vars j
  refine (block3 m c t j0 j1).trans (Eq.trans ?_ (block3 m c t' j0 j1).symm)
  simp only [h]

/-- The block of the weights is the same all through a column block. -/
theorem same4 (c : Dev nD) (t t' : Fin cfg0.N) (h : t.val / 8 = t'.val / 8) : iblk m c 4 t = iblk m c 4 t' := by
  funext j
  idx_vars j
  refine (block4 m c t j0 j1).trans (Eq.trans ?_ (block4 m c t' j0 j1).symm)
  simp only [h]

/-- The block of the weights is the same all through a column block. -/
theorem same5 (c : Dev nD) (t t' : Fin cfg0.N) (h : t.val / 8 = t'.val / 8) : iblk m c 5 t = iblk m c 5 t' := by
  funext j
  idx_vars j
  refine (block5 m c t j0 j1).trans (Eq.trans ?_ (block5 m c t' j0 j1).symm)
  simp only [h]

/-- The block of the weights is the same all through a column block. -/
theorem same6 (c : Dev nD) (t t' : Fin cfg0.N) (h : t.val / 8 = t'.val / 8) : iblk m c 6 t = iblk m c 6 t' := by
  funext j
  idx_vars j
  refine (block6 m c t j0 j1).trans (Eq.trans ?_ (block6 m c t' j0 j1).symm)
  simp only [h]

/-- The copies of the weights after point `n` are the weights' blocks of its column block. -/
theorem carried (c : Dev nD) : ∀ (n : ℕ) (hn : n < cfg0.N),
    (outsAt0 m c n hn).2.2.2.2.2.1 = narrow (iblk m c 3 ⟨n, hn⟩) ∧ (outsAt0 m c n hn).2.2.2.2.2.2.1 = narrow (iblk m c 4 ⟨n, hn⟩)
    ∧ (outsAt0 m c n hn).2.2.2.2.2.2.2.1 = narrow (iblk m c 5 ⟨n, hn⟩) ∧ (outsAt0 m c n hn).2.2.2.2.2.2.2.2 = narrow (iblk m c 6 ⟨n, hn⟩) := by
  intro n
  induction n with
  | zero =>
    intro hn
    rw [show outsAt0 m c 0 hn = _ from outsAt0_A m c ⟨0, hn⟩ (Nat.zero_mod 8)]
    dsimp only
    exact ⟨left0_A .., left1_A .., left2_A .., left3_A ..⟩
  | succ k ih =>
    intro hn
    by_cases h0 : (k + 1) % 8 = 0
    · rw [show outsAt0 m c (k + 1) hn = _ from outsAt0_A m c ⟨k + 1, hn⟩ h0]
      dsimp only
      exact ⟨left0_A .., left1_A .., left2_A .., left3_A ..⟩
    · have hk : k < cfg0.N := Nat.lt_of_succ_lt hn
      have e : (⟨k, hk⟩ : Fin cfg0.N).val / 8 = (⟨k + 1, hn⟩ : Fin cfg0.N).val / 8 := by show k / 8 = (k + 1) / 8; omega
      obtain ⟨i0, i1, i2, i3⟩ := ih hk
      rw [show outsAt0 m c (k + 1) hn = _ from outsAt0_B m c ⟨k + 1, hn⟩ h0]
      dsimp only
      exact ⟨i0.trans (congrArg narrow (same3 m c _ _ e)), i1.trans (congrArg narrow (same4 m c _ _ e)),
        i2.trans (congrArg narrow (same5 m c _ _ e)), i3.trans (congrArg narrow (same6 m c _ _ e))⟩

/-- What point `t` leaves in its block of the result, whichever copies it uses. -/
theorem out_eq (c : Dev nD) (t : Fin cfg0.N) :
    (outsAt0 m c t.val t.isLt).1 = blockOf (iblk m c 0 t) (iblk m c 1 t) (iblk m c 2 t) (narrow (iblk m c 3 t)) (narrow (iblk m c 4 t))
      (narrow (iblk m c 5 t)) (narrow (iblk m c 6 t)) := by
  by_cases h0 : t.val % 8 = 0
  · rw [outsAt0_A m c t h0]
    dsimp only
    exact out11_A ..
  · obtain ⟨i0, i1, i2, i3⟩ := carried m c (t.val - 1) (Nat.lt_of_le_of_lt (Nat.sub_le _ _) t.isLt)
    have e : (⟨t.val - 1, Nat.lt_of_le_of_lt (Nat.sub_le _ _) t.isLt⟩ : Fin cfg0.N).val / 8 = t.val / 8 := by
      show (t.val - 1) / 8 = t.val / 8; omega
    rw [outsAt0_B m c t h0]
    dsimp only
    refine (out11_B ..).trans ?_
    rw [i0, i1, i2, i3, same3 m c _ _ e, same4 m c _ _ e, same5 m c _ _ e, same6 m c _ _ e]

/-- The arguments of core `c`, and the merged array they give. -/
abbrev resultOf (c : Dev nD) : Vec Ideal S8192x2048 .bf16 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem emb11 (t : Fin cfg0.N) (r : Fin 1024) (l : Fin 512) :
    ((cfg0.win 11).blk t).view.emb (ix2 r l) = ix2 (⟨1024 * (t.val % 8) + r, by omega⟩ : Fin 8192)
      (⟨512 * (t.val / 8) + l, by have := t.isLt; have : cfg0.N = 32 := rfl; omega⟩ : Fin 2048) := by
  obtain ⟨-, -, -, -, -, -, e0, e1⟩ := idx_rows t
  funext a; apply Fin.ext
  match a with
  | ⟨0, _⟩ => show win0_11.index t (0 : Fin 2) * 1024 + 1 * r.val = 1024 * (t.val % 8) + r.val; omega
  | ⟨1, _⟩ => show win0_11.index t (1 : Fin 2) * 512 + 1 * l.val = 512 * (t.val / 8) + l.val; omega

/-- What a grid point writes back is its block of the merged array. -/
theorem flushed_eq (c : Dev nD) (t : Fin cfg0.N) :
    (dats m 0 c).flushed 11 t = ((cfg0.win 11).blk t).view.read (Elt Ideal) (resultOf m c) := by
  rw [flushed11, out_eq]
  funext j
  show blockOf (iblk m c 0 t) (iblk m c 1 t) (iblk m c 2 t) (narrow (iblk m c 3 t)) (narrow (iblk m c 4 t))
      (narrow (iblk m c 5 t)) (narrow (iblk m c 6 t)) j = resultOf m c (((cfg0.win 11).blk t).view.emb j)
  idx_vars j
  rw [emb11]
  show _ = result _ _ _ _ _ _ (ix2 _ _)
  have hN : t.val < 32 := t.isLt
  have e3 : ∀ h h', (⟨512 * (17 + t.val / 8) + j1.val, h⟩ : Fin 12800) = ⟨8704 + (512 * (t.val / 8) + j1.val), h'⟩ := fun _ _ => Fin.ext (by show 512 * (17 + t.val / 8) + j1.val = 8704 + (512 * (t.val / 8) + j1.val); omega)
  have e4 : ∀ h h', (⟨512 * (21 + t.val / 8) + j1.val, h⟩ : Fin 12800) = ⟨8704 + (2048 + (512 * (t.val / 8) + j1.val)), h'⟩ := fun _ _ => Fin.ext (by show 512 * (21 + t.val / 8) + j1.val = 8704 + (2048 + (512 * (t.val / 8) + j1.val)); omega)
  rw [blockOf_ix2, result_ix2]
  have s3 : ∀ k : Fin 2048, narrow (iblk m c 3 t) (ix2 k j1) = m ((c : Thread nD τ).loc main_arg3) (ix2 k (⟨8704 + (512 * (t.val / 8) + j1.val), by omega⟩ : Fin 12800)) := fun k => by
    rw [← e3 (by omega)]; exact block3 m c t k j1
  have s4 : ∀ k : Fin 2048, narrow (iblk m c 4 t) (ix2 k j1) = m ((c : Thread nD τ).loc main_arg3) (ix2 k (⟨8704 + (2048 + (512 * (t.val / 8) + j1.val)), by omega⟩ : Fin 12800)) := fun k => by
    rw [← e4 (by omega)]; exact block4 m c t k j1
  have s5 : ∀ k : Fin 512, narrow (iblk m c 5 t) (ix2 k j1) = m ((c : Thread nD τ).loc main_arg4) (ix2 k (⟨512 * (t.val / 8) + j1.val, by omega⟩ : Fin 2048)) := fun k => block5 m c t k j1
  have s6 : ∀ k : Fin 1024, narrow (iblk m c 6 t) (ix2 k j1) = m ((c : Thread nD τ).loc main_arg5) (ix2 k (⟨512 * (t.val / 8) + j1.val, by omega⟩ : Fin 2048)) := fun k => block6 m c t k j1
  simp only [s3, s4, s5, s6, block0 m c t, block1 m c t, block2 m c t]

/-- Every index of the merged array is in some block. -/
theorem covered (i : S8192x2048.Idx) : ∃ t : Fin cfg0.N, (cfg0.win 11).flush t = true ∧ i ∈ ((cfg0.win 11).blk t).view.set := by
  idx_vars i
  refine ⟨⟨i1.val / 512 * 8 + i0.val / 1024, by show _ < 32; omega⟩, flush0_11 _, ?_⟩
  have h := ((cfg0.win 11).blk ⟨i1.val / 512 * 8 + i0.val / 1024, by show _ < 32; omega⟩).view.emb_mem_set
    (ix2 (⟨i0.val % 1024, by omega⟩ : Fin 1024) (⟨i1.val % 512, by omega⟩ : Fin 512))
  rw [emb11] at h
  have e0 : (⟨1024 * ((i1.val / 512 * 8 + i0.val / 1024) % 8) + i0.val % 1024, by omega⟩ : Fin 8192) = i0 := Fin.ext (by show 1024 * ((i1.val / 512 * 8 + i0.val / 1024) % 8) + i0.val % 1024 = i0.val; omega)
  have e1 : (⟨512 * ((i1.val / 512 * 8 + i0.val / 1024) / 8) + i1.val % 512, by omega⟩ : Fin 2048) = i1 := Fin.ext (by show 512 * ((i1.val / 512 * 8 + i0.val / 1024) / 8) + i1.val % 512 = i1.val; omega)
  rwa [e0, e1] at h

/-- The merged array after the run. -/
theorem final (c : Dev nD) : (dats m 0 c).arrAt 11 cfg0.N = resultOf m c :=
  (dats m 0 c).arrAt_eq_of_cover 11 (resultOf m c) (fun t _ => flushed_eq m c t) covered

theorem emb12 (t : Fin cfg0.N) (r : Fin 64) (l : Fin 2048) :
    ((cfg0.win 12).blk t).view.emb (ix2 r l) = ix2 (⟨64 * t.val + r, by have := t.isLt; have : cfg0.N = 32 := rfl; omega⟩ : Fin 2048) l := by
  obtain ⟨e0, e1, -⟩ := idx_out t
  funext a; apply Fin.ext
  match a with
  | ⟨0, _⟩ => show win0_12.index t (0 : Fin 2) * 64 + 1 * r.val = 64 * t.val + r.val; omega
  | ⟨1, _⟩ => show win0_12.index t (1 : Fin 2) * 2048 + 1 * l.val = l.val; omega

theorem embIn12 (t : Fin cfg0.N) (r : Fin 64) (l : Fin 2048) :
    ((cfg0.win 7).blk t).view.emb (ix2 r l) = ix2 (⟨64 * t.val + r, by have := t.isLt; have : cfg0.N = 32 := rfl; omega⟩ : Fin 2048) l := by
  obtain ⟨e0, e1, -⟩ := idx_out t
  obtain ⟨h, -⟩ := idx_through t
  rw [← h] at e0 e1
  funext a; apply Fin.ext
  match a with
  | ⟨0, _⟩ => show win0_7.index t (0 : Fin 2) * 64 + 1 * r.val = 64 * t.val + r.val; omega
  | ⟨1, _⟩ => show win0_7.index t (1 : Fin 2) * 2048 + 1 * l.val = l.val; omega

/-- A point passes its block of argument 6 through. -/
theorem flushed12_eq (c : Dev nD) (t : Fin cfg0.N) :
    (dats m 0 c).flushed 12 t = ((cfg0.win 12).blk t).view.read (Elt Ideal) (narrow (m ((c : Thread nD τ).loc main_arg6))) := by
  have e : (outsAt0 m c t.val t.isLt).2.1 = narrow (iblk m c 7 t) := by
    by_cases h0 : t.val % 8 = 0
    · rw [outsAt0_A m c t h0]; dsimp only; exact out12_A ..
    · rw [outsAt0_B m c t h0]; dsimp only; exact out12_B ..
  rw [flushed12, e]
  funext j
  idx_vars j
  show V m c main_arg6 (((cfg0.win 7).blk t).view.emb (ix2 j0 j1)) = m ((c : Thread nD τ).loc main_arg6) (((cfg0.win 12).blk t).view.emb (ix2 j0 j1))
  rw [embIn12, emb12, V_main_arg6]

theorem covered12 (i : S2048x2048.Idx) : ∃ t : Fin cfg0.N, (cfg0.win 12).flush t = true ∧ i ∈ ((cfg0.win 12).blk t).view.set := by
  idx_vars i
  refine ⟨⟨i0.val / 64, by show _ < 32; omega⟩, flush0_12 _, ?_⟩
  have h := ((cfg0.win 12).blk ⟨i0.val / 64, by show _ < 32; omega⟩).view.emb_mem_set (ix2 (⟨i0.val % 64, by omega⟩ : Fin 64) i1)
  rw [emb12] at h
  have e0 : (⟨64 * (i0.val / 64) + i0.val % 64, by omega⟩ : Fin 2048) = i0 := Fin.ext (by show 64 * (i0.val / 64) + i0.val % 64 = i0.val; omega)
  rwa [e0] at h

/-- The copy of argument 6 after the run. -/
theorem final12 (c : Dev nD) : (dats m 0 c).arrAt 12 cfg0.N = narrow (m ((c : Thread nD τ).loc main_arg6)) :=
  (dats m 0 c).arrAt_eq_of_cover 12 (narrow (m ((c : Thread nD τ).loc main_arg6))) (fun t _ => flushed12_eq m c t) covered12

theorem emb13 (t : Fin cfg0.N) (r : Fin 64) (l : Fin 512) :
    ((cfg0.win 13).blk t).view.emb (ix2 r l) = ix2 (⟨64 * t.val + r, by have := t.isLt; have : cfg0.N = 32 := rfl; omega⟩ : Fin 2048) l := by
  obtain ⟨-, -, e0, e1, -⟩ := idx_out t
  funext a; apply Fin.ext
  match a with
  | ⟨0, _⟩ => show win0_13.index t (0 : Fin 2) * 64 + 1 * r.val = 64 * t.val + r.val; omega
  | ⟨1, _⟩ => show win0_13.index t (1 : Fin 2) * 512 + 1 * l.val = l.val; omega

theorem embIn13 (t : Fin cfg0.N) (r : Fin 64) (l : Fin 512) :
    ((cfg0.win 8).blk t).view.emb (ix2 r l) = ix2 (⟨64 * t.val + r, by have := t.isLt; have : cfg0.N = 32 := rfl; omega⟩ : Fin 2048) l := by
  obtain ⟨-, -, e0, e1, -⟩ := idx_out t
  obtain ⟨-, h, -⟩ := idx_through t
  rw [← h] at e0 e1
  funext a; apply Fin.ext
  match a with
  | ⟨0, _⟩ => show win0_8.index t (0 : Fin 2) * 64 + 1 * r.val = 64 * t.val + r.val; omega
  | ⟨1, _⟩ => show win0_8.index t (1 : Fin 2) * 512 + 1 * l.val = l.val; omega

/-- A point passes its block of argument 7 through. -/
theorem flushed13_eq (c : Dev nD) (t : Fin cfg0.N) :
    (dats m 0 c).flushed 13 t = ((cfg0.win 13).blk t).view.read (Elt Ideal) (narrow (m ((c : Thread nD τ).loc main_arg7))) := by
  have e : (outsAt0 m c t.val t.isLt).2.2.1 = narrow (iblk m c 8 t) := by
    by_cases h0 : t.val % 8 = 0
    · rw [outsAt0_A m c t h0]; dsimp only; exact out13_A ..
    · rw [outsAt0_B m c t h0]; dsimp only; exact out13_B ..
  rw [flushed13, e]
  funext j
  idx_vars j
  show V m c main_arg7 (((cfg0.win 8).blk t).view.emb (ix2 j0 j1)) = m ((c : Thread nD τ).loc main_arg7) (((cfg0.win 13).blk t).view.emb (ix2 j0 j1))
  rw [embIn13, emb13, V_main_arg7]

theorem covered13 (i : S2048x512.Idx) : ∃ t : Fin cfg0.N, (cfg0.win 13).flush t = true ∧ i ∈ ((cfg0.win 13).blk t).view.set := by
  idx_vars i
  refine ⟨⟨i0.val / 64, by show _ < 32; omega⟩, flush0_13 _, ?_⟩
  have h := ((cfg0.win 13).blk ⟨i0.val / 64, by show _ < 32; omega⟩).view.emb_mem_set (ix2 (⟨i0.val % 64, by omega⟩ : Fin 64) i1)
  rw [emb13] at h
  have e0 : (⟨64 * (i0.val / 64) + i0.val % 64, by omega⟩ : Fin 2048) = i0 := Fin.ext (by show 64 * (i0.val / 64) + i0.val % 64 = i0.val; omega)
  rwa [e0] at h

/-- The copy of argument 7 after the run. -/
theorem final13 (c : Dev nD) : (dats m 0 c).arrAt 13 cfg0.N = narrow (m ((c : Thread nD τ).loc main_arg7)) :=
  (dats m 0 c).arrAt_eq_of_cover 13 (narrow (m ((c : Thread nD τ).loc main_arg7))) (fun t _ => flushed13_eq m c t) covered13

theorem emb14 (t : Fin cfg0.N) (r : Fin 64) (l : Fin 1024) :
    ((cfg0.win 14).blk t).view.emb (ix2 r l) = ix2 (⟨64 * t.val + r, by have := t.isLt; have : cfg0.N = 32 := rfl; omega⟩ : Fin 2048) l := by
  obtain ⟨-, -, -, -, e0, e1, -⟩ := idx_out t
  funext a; apply Fin.ext
  match a with
  | ⟨0, _⟩ => show win0_14.index t (0 : Fin 2) * 64 + 1 * r.val = 64 * t.val + r.val; omega
  | ⟨1, _⟩ => show win0_14.index t (1 : Fin 2) * 1024 + 1 * l.val = l.val; omega

theorem embIn14 (t : Fin cfg0.N) (r : Fin 64) (l : Fin 1024) :
    ((cfg0.win 9).blk t).view.emb (ix2 r l) = ix2 (⟨64 * t.val + r, by have := t.isLt; have : cfg0.N = 32 := rfl; omega⟩ : Fin 2048) l := by
  obtain ⟨-, -, -, -, e0, e1, -⟩ := idx_out t
  obtain ⟨-, -, h, -⟩ := idx_through t
  rw [← h] at e0 e1
  funext a; apply Fin.ext
  match a with
  | ⟨0, _⟩ => show win0_9.index t (0 : Fin 2) * 64 + 1 * r.val = 64 * t.val + r.val; omega
  | ⟨1, _⟩ => show win0_9.index t (1 : Fin 2) * 1024 + 1 * l.val = l.val; omega

/-- A point passes its block of argument 8 through. -/
theorem flushed14_eq (c : Dev nD) (t : Fin cfg0.N) :
    (dats m 0 c).flushed 14 t = ((cfg0.win 14).blk t).view.read (Elt Ideal) (narrow (m ((c : Thread nD τ).loc main_arg8))) := by
  have e : (outsAt0 m c t.val t.isLt).2.2.2.1 = narrow (iblk m c 9 t) := by
    by_cases h0 : t.val % 8 = 0
    · rw [outsAt0_A m c t h0]; dsimp only; exact out14_A ..
    · rw [outsAt0_B m c t h0]; dsimp only; exact out14_B ..
  rw [flushed14, e]
  funext j
  idx_vars j
  show V m c main_arg8 (((cfg0.win 9).blk t).view.emb (ix2 j0 j1)) = m ((c : Thread nD τ).loc main_arg8) (((cfg0.win 14).blk t).view.emb (ix2 j0 j1))
  rw [embIn14, emb14, V_main_arg8]

theorem covered14 (i : S2048x1024.Idx) : ∃ t : Fin cfg0.N, (cfg0.win 14).flush t = true ∧ i ∈ ((cfg0.win 14).blk t).view.set := by
  idx_vars i
  refine ⟨⟨i0.val / 64, by show _ < 32; omega⟩, flush0_14 _, ?_⟩
  have h := ((cfg0.win 14).blk ⟨i0.val / 64, by show _ < 32; omega⟩).view.emb_mem_set (ix2 (⟨i0.val % 64, by omega⟩ : Fin 64) i1)
  rw [emb14] at h
  have e0 : (⟨64 * (i0.val / 64) + i0.val % 64, by omega⟩ : Fin 2048) = i0 := Fin.ext (by show 64 * (i0.val / 64) + i0.val % 64 = i0.val; omega)
  rwa [e0] at h

/-- The copy of argument 8 after the run. -/
theorem final14 (c : Dev nD) : (dats m 0 c).arrAt 14 cfg0.N = narrow (m ((c : Thread nD τ).loc main_arg8)) :=
  (dats m 0 c).arrAt_eq_of_cover 14 (narrow (m ((c : Thread nD τ).loc main_arg8))) (fun t _ => flushed14_eq m c t) covered14

theorem emb15 (t : Fin cfg0.N) (r : Fin 16) (l : Fin 2048) :
    ((cfg0.win 15).blk t).view.emb (ix2 r l) = ix2 (⟨16 * t.val + r, by have := t.isLt; have : cfg0.N = 32 := rfl; omega⟩ : Fin 512) l := by
  obtain ⟨-, -, -, -, -, -, e0, e1⟩ := idx_out t
  funext a; apply Fin.ext
  match a with
  | ⟨0, _⟩ => show win0_15.index t (0 : Fin 2) * 16 + 1 * r.val = 16 * t.val + r.val; omega
  | ⟨1, _⟩ => show win0_15.index t (1 : Fin 2) * 2048 + 1 * l.val = l.val; omega

theorem embIn15 (t : Fin cfg0.N) (r : Fin 16) (l : Fin 2048) :
    ((cfg0.win 10).blk t).view.emb (ix2 r l) = ix2 (⟨16 * t.val + r, by have := t.isLt; have : cfg0.N = 32 := rfl; omega⟩ : Fin 512) l := by
  obtain ⟨-, -, -, -, -, -, e0, e1⟩ := idx_out t
  obtain ⟨-, -, -, h⟩ := idx_through t
  rw [← h] at e0 e1
  funext a; apply Fin.ext
  match a with
  | ⟨0, _⟩ => show win0_10.index t (0 : Fin 2) * 16 + 1 * r.val = 16 * t.val + r.val; omega
  | ⟨1, _⟩ => show win0_10.index t (1 : Fin 2) * 2048 + 1 * l.val = l.val; omega

/-- A point passes its block of argument 9 through. -/
theorem flushed15_eq (c : Dev nD) (t : Fin cfg0.N) :
    (dats m 0 c).flushed 15 t = ((cfg0.win 15).blk t).view.read (Elt Ideal) (narrow (m ((c : Thread nD τ).loc main_arg9))) := by
  have e : (outsAt0 m c t.val t.isLt).2.2.2.2.1 = narrow (iblk m c 10 t) := by
    by_cases h0 : t.val % 8 = 0
    · rw [outsAt0_A m c t h0]; dsimp only; exact out15_A ..
    · rw [outsAt0_B m c t h0]; dsimp only; exact out15_B ..
  rw [flushed15, e]
  funext j
  idx_vars j
  show V m c main_arg9 (((cfg0.win 10).blk t).view.emb (ix2 j0 j1)) = m ((c : Thread nD τ).loc main_arg9) (((cfg0.win 15).blk t).view.emb (ix2 j0 j1))
  rw [embIn15, emb15, V_main_arg9]

theorem covered15 (i : S512x2048.Idx) : ∃ t : Fin cfg0.N, (cfg0.win 15).flush t = true ∧ i ∈ ((cfg0.win 15).blk t).view.set := by
  idx_vars i
  refine ⟨⟨i0.val / 16, by show _ < 32; omega⟩, flush0_15 _, ?_⟩
  have h := ((cfg0.win 15).blk ⟨i0.val / 16, by show _ < 32; omega⟩).view.emb_mem_set (ix2 (⟨i0.val % 16, by omega⟩ : Fin 16) i1)
  rw [emb15] at h
  have e0 : (⟨16 * (i0.val / 16) + i0.val % 16, by omega⟩ : Fin 512) = i0 := Fin.ext (by show 16 * (i0.val / 16) + i0.val % 16 = i0.val; omega)
  rwa [e0] at h

/-- The copy of argument 9 after the run. -/
theorem final15 (c : Dev nD) : (dats m 0 c).arrAt 15 cfg0.N = narrow (m ((c : Thread nD τ).loc main_arg9)) :=
  (dats m 0 c).arrAt_eq_of_cover 15 (narrow (m ((c : Thread nD τ).loc main_arg9))) (fun t _ => flushed15_eq m c t) covered15

end Cert.MergeMix

end
-- ==== Proof.MergeClaims.lean ====
/- THE CLAIMS about the gated merge: the reference's frame, and the equality of the five results at the ideal instance. -/
module

public import proofs.«01_k».proof.Proof.Merge
public import proofs.«01_k».proof.Defs

@[expose] public section

noncomputable section

namespace Cert.MergeMix

open Idealize.ShloMosaic Idealize.SL.Sem

theorem frame_reference : Cert.quiescent_MergeReferenceIdeal := fun m ρ _ =>
  (θ_run Cert.MergeReferenceIdeal.defs _ _).mono (fun r h => ⟨fun c => (h c).2.2.2.2.2, Idealize.ShloMosaic.sem_eq_zero_of_no_sems (by decide) r.2⟩)
    (Cert.MergeReferenceIdeal.Value.run (F := Ideal) m ρ)

/-- Kernel and reference leave the same arrays: the gated merge of their arguments, and four of the arguments as they are. -/
theorem algebraic : Cert.algebraic_MergeKernelIdeal_MergeReferenceIdeal := by
  intro m ρ m' ρ' _ hagree
  refine ⟨resultOf m, fun c => narrow (m ((c.tc : Thread _ _).loc Cert.MergeKernelIdeal.main_arg6)), fun c => narrow (m ((c.tc : Thread _ _).loc Cert.MergeKernelIdeal.main_arg7)),
    fun c => narrow (m ((c.tc : Thread _ _).loc Cert.MergeKernelIdeal.main_arg8)), fun c => narrow (m ((c.tc : Thread _ _).loc Cert.MergeKernelIdeal.main_arg9)),
    (θ_run Cert.MergeKernelIdeal.defs _ _).mono (fun r h c => ⟨(h c).1.trans (final m c), (h c).2.1.trans (final12 m c), (h c).2.2.1.trans (final13 m c),
      (h c).2.2.2.1.trans (final14 m c), (h c).2.2.2.2.1.trans (final15 m c), (h c).2.2.2.2.2⟩)
    (Cert.MergeKernelIdeal.Value.run_blocks m ρ), ?_⟩
  refine (θ_run Cert.MergeReferenceIdeal.defs _ _).mono (fun r h c => ?_) (Cert.MergeReferenceIdeal.Value.run (F := Ideal) m' ρ')
  obtain ⟨e0, e1, e2, e3, e4, e5, e6, e7, e8, e9⟩ := hagree c
  refine ⟨(h c).1.trans ?_, (h c).2.1.trans ?_, (h c).2.2.1.trans ?_, (h c).2.2.2.1.trans ?_, (h c).2.2.2.2.1.trans ?_, (h c).2.2.2.2.2⟩
  · rw [Cert.MergeReferenceIdeal.Read.val_main_v18_eq, e0, e1, e2, e3, e4, e5]
    exact reference_eq _ _ _ _ _ _
  · rw [e6]; rfl
  · rw [e7]; rfl
  · rw [e8]; rfl
  · rw [e9]; rfl

end Cert.MergeMix

end
-- ==== Proof.MidTile.lean ====
/- THE MIDDLE CALL, TILE BY TILE: a grid point works through two groups of 256 rows, and spells the same few tile functions many
   times over. Each spelling is brought to one of them, and each of these is read at an index. -/
module

public import proofs.«01_k».proof.Proof.Gen.MidKernelIdeal.Value
public import Idealize.ShloMosaic.Lib.Pointwise

@[expose] public section

noncomputable section

namespace Cert.MidMix

open Cert.MidKernelIdeal Cert.MidKernelIdeal.Gen Cert.MidKernelIdeal.Value Idealize.ShloMosaic Idealize.ShloMosaic.TcCoe Idealize.SL.Sem

/-- Four heads side by side. -/
def heads (o0 o1 o2 o3 : FVec Ideal S256x128 .bf16) : FVec Ideal S256x512 .bf16 :=
  concatenate S256x512 1 [⟨S256x128, o0⟩, ⟨S256x128, o1⟩, ⟨S256x128, o2⟩, ⟨S256x128, o3⟩] concatenates_S256x128_S256x128_S256x128_S256x128_S256x512_d1

/-- The reciprocal root of the mean square of rows held as four tiles of 512 columns. -/
def scl (y0 y1 y2 y3 : FVec Ideal S256x512 .f32) : FVec Ideal S256x1 .f32 := fun j =>
  Ideal.rsqrt (((((∑ k : Fin 512, y0 (ix2 (j 0) k) * y0 (ix2 (j 0) k)) + ∑ k : Fin 512, y1 (ix2 (j 0) k) * y1 (ix2 (j 0) k))
    + ∑ k : Fin 512, y2 (ix2 (j 0) k) * y2 (ix2 (j 0) k)) + ∑ k : Fin 512, y3 (ix2 (j 0) k) * y3 (ix2 (j 0) k)) * Ideal.ofBits .f32 973078528#32
    + Ideal.ofBits .f32 897988541#32)

/-- A row's softmax weights, as the kernel normalises them: by the reciprocal of the denominator. -/
def weight (s : Fin 256 → EReal) (m : Fin 256) : EReal :=
  Ideal.exp (s m - Finset.univ.fold max (Ideal.ofBits .f32 4286578688#32) s)
    * Ideal.div (Ideal.ofBits .f32 1065353216#32) (∑ n : Fin 256, Ideal.exp (s n - Finset.univ.fold max (Ideal.ofBits .f32 4286578688#32) s))

/-! ## One spelling of each tile function -/

theorem y8 (a : FVec Ideal S1x256x2048 .bf16) (b : FVec Ideal S1x256x512 .f32) (w : FVec Ideal S2048x512 .bf16) : k0_pay8 (F := Ideal) a b w = k0_pay7 (F := Ideal) a b w := rfl
theorem y9 (a : FVec Ideal S1x256x2048 .bf16) (b : FVec Ideal S1x256x512 .f32) (w : FVec Ideal S2048x512 .bf16) : k0_pay9 (F := Ideal) a b w = k0_pay7 (F := Ideal) a b w := rfl
theorem y10 (a : FVec Ideal S1x256x2048 .bf16) (b : FVec Ideal S1x256x512 .f32) (w : FVec Ideal S2048x512 .bf16) : k0_pay10 (F := Ideal) a b w = k0_pay7 (F := Ideal) a b w := rfl
theorem y23 (a : FVec Ideal S1x256x2048 .bf16) (b : FVec Ideal S1x256x512 .f32) (w : FVec Ideal S2048x512 .bf16) : k0_pay23 (F := Ideal) a b w = k0_pay7 (F := Ideal) a b w := rfl
theorem y24 (a : FVec Ideal S1x256x2048 .bf16) (b : FVec Ideal S1x256x512 .f32) (w : FVec Ideal S2048x512 .bf16) : k0_pay24 (F := Ideal) a b w = k0_pay7 (F := Ideal) a b w := rfl
theorem y25 (a : FVec Ideal S1x256x2048 .bf16) (b : FVec Ideal S1x256x512 .f32) (w : FVec Ideal S2048x512 .bf16) : k0_pay25 (F := Ideal) a b w = k0_pay7 (F := Ideal) a b w := rfl
theorem y26 (a : FVec Ideal S1x256x2048 .bf16) (b : FVec Ideal S1x256x512 .f32) (w : FVec Ideal S2048x512 .bf16) : k0_pay26 (F := Ideal) a b w = k0_pay7 (F := Ideal) a b w := rfl
theorem y62 (o : FVec Ideal S256x512 .bf16) (b : FVec Ideal S1x256x512 .f32) (w : FVec Ideal S512x512 .bf16) : k0_pay62 (F := Ideal) o b w = k0_pay61 (F := Ideal) o b w := rfl
theorem y63 (o : FVec Ideal S256x512 .bf16) (b : FVec Ideal S1x256x512 .f32) (w : FVec Ideal S512x512 .bf16) : k0_pay63 (F := Ideal) o b w = k0_pay61 (F := Ideal) o b w := rfl
theorem y64 (o : FVec Ideal S256x512 .bf16) (b : FVec Ideal S1x256x512 .f32) (w : FVec Ideal S512x512 .bf16) : k0_pay64 (F := Ideal) o b w = k0_pay61 (F := Ideal) o b w := rfl
theorem y76 (o : FVec Ideal S256x512 .bf16) (b : FVec Ideal S1x256x512 .f32) (w : FVec Ideal S512x512 .bf16) : k0_pay76 (F := Ideal) o b w = k0_pay61 (F := Ideal) o b w := rfl
theorem y77 (o : FVec Ideal S256x512 .bf16) (b : FVec Ideal S1x256x512 .f32) (w : FVec Ideal S512x512 .bf16) : k0_pay77 (F := Ideal) o b w = k0_pay61 (F := Ideal) o b w := rfl
theorem y78 (o : FVec Ideal S256x512 .bf16) (b : FVec Ideal S1x256x512 .f32) (w : FVec Ideal S512x512 .bf16) : k0_pay78 (F := Ideal) o b w = k0_pay61 (F := Ideal) o b w := rfl
theorem y79 (o : FVec Ideal S256x512 .bf16) (b : FVec Ideal S1x256x512 .f32) (w : FVec Ideal S512x512 .bf16) : k0_pay79 (F := Ideal) o b w = k0_pay61 (F := Ideal) o b w := rfl
theorem c3 (y : FVec Ideal S256x512 .f32) : k0_pay3 (F := Ideal) y = k0_pay1 (F := Ideal) y := rfl
theorem c13 (y : FVec Ideal S256x512 .f32) : k0_pay13 (F := Ideal) y = k0_pay1 (F := Ideal) y := rfl
theorem c15 (y : FVec Ideal S256x512 .f32) : k0_pay15 (F := Ideal) y = k0_pay1 (F := Ideal) y := rfl
theorem c18 (y : FVec Ideal S256x512 .f32) : k0_pay18 (F := Ideal) y = k0_pay1 (F := Ideal) y := rfl
theorem c20 (y : FVec Ideal S256x512 .f32) : k0_pay20 (F := Ideal) y = k0_pay1 (F := Ideal) y := rfl
theorem c30 (y : FVec Ideal S256x512 .f32) : k0_pay30 (F := Ideal) y = k0_pay1 (F := Ideal) y := rfl
theorem c32 (y : FVec Ideal S256x512 .f32) : k0_pay32 (F := Ideal) y = k0_pay1 (F := Ideal) y := rfl
theorem c35 (y : FVec Ideal S256x512 .f32) : k0_pay35 (F := Ideal) y = k0_pay1 (F := Ideal) y := rfl
theorem c37 (y : FVec Ideal S256x512 .f32) : k0_pay37 (F := Ideal) y = k0_pay1 (F := Ideal) y := rfl
theorem c67 (y : FVec Ideal S256x512 .f32) : k0_pay67 (F := Ideal) y = k0_pay1 (F := Ideal) y := rfl
theorem c69 (y : FVec Ideal S256x512 .f32) : k0_pay69 (F := Ideal) y = k0_pay1 (F := Ideal) y := rfl
theorem c72 (y : FVec Ideal S256x512 .f32) : k0_pay72 (F := Ideal) y = k0_pay1 (F := Ideal) y := rfl
theorem c74 (y : FVec Ideal S256x512 .f32) : k0_pay74 (F := Ideal) y = k0_pay1 (F := Ideal) y := rfl
theorem c83 (y : FVec Ideal S256x512 .f32) : k0_pay83 (F := Ideal) y = k0_pay1 (F := Ideal) y := rfl
theorem c85 (y : FVec Ideal S256x512 .f32) : k0_pay85 (F := Ideal) y = k0_pay1 (F := Ideal) y := rfl
theorem h4 (y : FVec Ideal S256x512 .f32) (s : FVec Ideal S256x1 .f32) (l : FVec Ideal S1x512 .f32) : k0_pay4 (F := Ideal) y s l = k0_pay2 (F := Ideal) y s l := rfl
theorem h19 (y : FVec Ideal S256x512 .f32) (s : FVec Ideal S256x1 .f32) (l : FVec Ideal S1x512 .f32) : k0_pay19 (F := Ideal) y s l = k0_pay2 (F := Ideal) y s l := rfl
theorem h21 (y : FVec Ideal S256x512 .f32) (s : FVec Ideal S256x1 .f32) (l : FVec Ideal S1x512 .f32) : k0_pay21 (F := Ideal) y s l = k0_pay2 (F := Ideal) y s l := rfl
theorem h36 (y : FVec Ideal S256x512 .f32) (s : FVec Ideal S256x1 .f32) (l : FVec Ideal S1x512 .f32) : k0_pay36 (F := Ideal) y s l = k0_pay2 (F := Ideal) y s l := rfl
theorem h38 (y : FVec Ideal S256x512 .f32) (s : FVec Ideal S256x1 .f32) (l : FVec Ideal S1x512 .f32) : k0_pay38 (F := Ideal) y s l = k0_pay2 (F := Ideal) y s l := rfl
theorem h73 (y : FVec Ideal S256x512 .f32) (s : FVec Ideal S256x1 .f32) (l : FVec Ideal S1x512 .f32) : k0_pay73 (F := Ideal) y s l = k0_pay2 (F := Ideal) y s l := rfl
theorem h75 (y : FVec Ideal S256x512 .f32) (s : FVec Ideal S256x1 .f32) (l : FVec Ideal S1x512 .f32) : k0_pay75 (F := Ideal) y s l = k0_pay2 (F := Ideal) y s l := rfl
theorem h14 (y0 y1 y2 y3 : FVec Ideal S256x512 .f32) (s : FVec Ideal S256 .f32) (l : FVec Ideal S1x512 .f32) : k0_pay14 (F := Ideal) y0 y1 y2 y3 s l = k0_pay2 (F := Ideal) y0 (k0_pay12 (F := Ideal) y1 y2 y3 s) l := rfl
theorem h17 (y1 y2 y3 : FVec Ideal S256x512 .f32) (s : FVec Ideal S256 .f32) (l : FVec Ideal S1x512 .f32) : k0_pay17 (F := Ideal) (k0_pay16 (F := Ideal) y1 y2 y3 s) l = k0_pay2 (F := Ideal) y1 (k0_pay12 (F := Ideal) y1 y2 y3 s) l := rfl
theorem h31 (y0 y3 q : FVec Ideal S256x512 .f32) (s : FVec Ideal S256x1 .f32) (l : FVec Ideal S1x512 .f32) : k0_pay31 (F := Ideal) y0 y3 s q l = k0_pay2 (F := Ideal) y0 (k0_pay29 (F := Ideal) y3 s q) l := rfl
theorem h34 (y1 y3 q : FVec Ideal S256x512 .f32) (s : FVec Ideal S256x1 .f32) (l : FVec Ideal S1x512 .f32) : k0_pay34 (F := Ideal) (k0_pay33 (F := Ideal) y1 y3 s q l) = k0_pay2 (F := Ideal) y1 (k0_pay29 (F := Ideal) y3 s q) l := rfl
theorem h68 (y0 y1 y2 y3 : FVec Ideal S256x512 .f32) (s : FVec Ideal S256x1 .f32) (l : FVec Ideal S1x512 .f32) : k0_pay68 (F := Ideal) y0 y1 y2 y3 s l = k0_pay2 (F := Ideal) y0 (k0_pay66 (F := Ideal) y1 y2 y3 s) l := rfl
theorem h71 (y1 y2 y3 : FVec Ideal S256x512 .f32) (s : FVec Ideal S256x1 .f32) (l : FVec Ideal S1x512 .f32) : k0_pay71 (F := Ideal) (k0_pay70 (F := Ideal) y1 y2 y3 s) l = k0_pay2 (F := Ideal) y1 (k0_pay66 (F := Ideal) y1 y2 y3 s) l := rfl
theorem h84 (y q : FVec Ideal S256x512 .f32) (s : FVec Ideal S256x1 .f32) (l : FVec Ideal S1x512 .f32) : k0_pay84 (F := Ideal) y s q l = k0_pay2 (F := Ideal) y (k0_pay82 (F := Ideal) s q) l := rfl
theorem h86 (y q : FVec Ideal S256x512 .f32) (s : FVec Ideal S256x1 .f32) (l : FVec Ideal S1x512 .f32) : k0_pay86 (F := Ideal) y s q l = k0_pay2 (F := Ideal) y (k0_pay82 (F := Ideal) s q) l := rfl
theorem q40 (h : FVec Ideal S1x256x2048 .bf16) (w : FVec Ideal S2048x512 .bf16) : k0_pay40 (F := Ideal) h w = k0_pay39 (F := Ideal) h w := rfl
theorem s45 (h : FVec Ideal S1x256x2048 .bf16) (w : FVec Ideal S2048x512 .bf16) (k : FVec Ideal S256x128 .bf16) : k0_pay45 (F := Ideal) h w k = k0_pay41 (F := Ideal) (k0_pay39 (F := Ideal) h w) k := rfl
theorem s47 (h : FVec Ideal S1x256x2048 .bf16) (w : FVec Ideal S2048x512 .bf16) (k : FVec Ideal S256x128 .bf16) : k0_pay47 (F := Ideal) (k0_pay46 (F := Ideal) h w) k (constant S256x256 .f32 0x00000000#32) = k0_pay42 (F := Ideal) (k0_pay39 (F := Ideal) h w) k := rfl
theorem s48 (q : FVec Ideal S256x512 .bf16) (k : FVec Ideal S256x128 .bf16) : k0_pay48 (F := Ideal) q k = k0_pay43 (F := Ideal) q k := rfl
theorem s49 (q : FVec Ideal S256x512 .bf16) (k : FVec Ideal S256x128 .bf16) : k0_pay49 (F := Ideal) q k = k0_pay44 (F := Ideal) q k := rfl
theorem o56 (s : FVec Ideal S256x256 .f32) (k : FVec Ideal S256x128 .bf16) : k0_pay56 (F := Ideal) s k = k0_pay50 (F := Ideal) s k := rfl
theorem o57 (s : FVec Ideal S256x256 .f32) (k : FVec Ideal S256x128 .bf16) : k0_pay57 (F := Ideal) s k = k0_pay50 (F := Ideal) s k := rfl
theorem o55 (s : FVec Ideal S256x256 .f32) (k : FVec Ideal S256x128 .bf16) : k0_pay55 (F := Ideal) (k0_pay53 (F := Ideal) s) (k0_pay54 (F := Ideal) s) k = k0_pay50 (F := Ideal) s k := rfl
theorem o52 (s1 s2 s3 : FVec Ideal S256x256 .f32) (o : FVec Ideal S256x128 .bf16) (v1 v2 v3 : FVec Ideal S256x128 .bf16) : k0_pay52 (F := Ideal) s2 s3 o (k0_pay51 (F := Ideal) s1) v1 v2 v3 = heads o (k0_pay50 (F := Ideal) s1 v1) (k0_pay50 (F := Ideal) s2 v2) (k0_pay50 (F := Ideal) s3 v3) := rfl
theorem o60 (o0 o1 o2 : FVec Ideal S256x128 .bf16) (s : FVec Ideal S256x256 .f32) (k : FVec Ideal S256x128 .bf16) : k0_pay60 (F := Ideal) o0 o1 o2 (k0_pay58 (F := Ideal) s) (k0_pay59 (F := Ideal) s) (Scalar.ofBits .f32 0x3F800000#32) k = heads o0 o1 o2 (k0_pay50 (F := Ideal) s k) := rfl

theorem scl12 (a : FVec Ideal S1x256x2048 .bf16) (b : FVec Ideal S1x256x512 .f32) (w : FVec Ideal S2048x512 .bf16) (y1 y2 y3 : FVec Ideal S256x512 .f32) : k0_pay12 (F := Ideal) y1 y2 y3 (k0_pay11 (F := Ideal) a b w) = scl (k0_pay7 (F := Ideal) a b w) y1 y2 y3 := by
  funext j
  idx_vars j
  pointwise [k0_pay12, k0_pay11, scl]

theorem scl29 (a : FVec Ideal S1x256x2048 .bf16) (y3 : FVec Ideal S256x512 .f32) (b0 b1 b2 : FVec Ideal S1x256x512 .f32) (w0 w1 w2 : FVec Ideal S2048x512 .bf16) :
    k0_pay29 (F := Ideal) y3 (k0_pay27 (F := Ideal) a b0 w0 b1 w1) (k0_pay28 (F := Ideal) a b2 w2) = scl (k0_pay7 (F := Ideal) a b0 w0) (k0_pay7 (F := Ideal) a b1 w1) (k0_pay7 (F := Ideal) a b2 w2) y3 := by
  rw [← y23, ← y24, ← y25]
  funext j
  idx_vars j
  pointwise [k0_pay29, k0_pay27, k0_pay28, scl]

theorem scl66 (o : FVec Ideal S256x512 .bf16) (b : FVec Ideal S1x256x512 .f32) (w : FVec Ideal S512x512 .bf16) (y1 y2 y3 : FVec Ideal S256x512 .f32) : k0_pay66 (F := Ideal) y1 y2 y3 (k0_pay65 (F := Ideal) o b w) = scl (k0_pay61 (F := Ideal) o b w) y1 y2 y3 := by
  funext j
  idx_vars j
  pointwise [k0_pay66, k0_pay65, scl]

theorem scl82 (o : FVec Ideal S256x512 .bf16) (b0 b1 b2 b3 : FVec Ideal S1x256x512 .f32) (w0 w1 w2 w3 : FVec Ideal S512x512 .bf16) :
    k0_pay82 (F := Ideal) (k0_pay80 (F := Ideal) o b0 w0 b1 w1 b2 w2) (k0_pay81 (F := Ideal) o b3 w3) = scl (k0_pay61 (F := Ideal) o b0 w0) (k0_pay61 (F := Ideal) o b1 w1) (k0_pay61 (F := Ideal) o b2 w2) (k0_pay61 (F := Ideal) o b3 w3) := by
  rw [← y76, ← y77, ← y78, ← y79]
  funext j
  idx_vars j
  pointwise [k0_pay82, k0_pay80, k0_pay81, scl]

/-! ## The tile functions at an index -/

theorem y_ix (a : FVec Ideal S1x256x2048 .bf16) (b : FVec Ideal S1x256x512 .f32) (w : FVec Ideal S2048x512 .bf16) (r : Fin 256) (l : Fin 512) :
    k0_pay7 (F := Ideal) a b w (ix2 r l) = b (ix3 (0 : Fin 1) r l) + ∑ k : Fin 2048, a (ix3 (0 : Fin 1) r k) * w (ix2 k l) := by
  pointwise [k0_pay7, k0_pay6]

theorem y2_ix (o : FVec Ideal S256x512 .bf16) (b : FVec Ideal S1x256x512 .f32) (w : FVec Ideal S512x512 .bf16) (r : Fin 256) (l : Fin 512) :
    k0_pay61 (F := Ideal) o b w (ix2 r l) = b (ix3 (0 : Fin 1) r l) + ∑ k : Fin 512, o (ix2 r k) * w (ix2 k l) := by
  pointwise [k0_pay61]

theorem h_ix (y : FVec Ideal S256x512 .f32) (s : FVec Ideal S256x1 .f32) (l : FVec Ideal S1x512 .f32) (i : Fin 1) (r : Fin 256) (k : Fin 512) :
    k0_pay2 (F := Ideal) y s l (ix3 i r k) = y (ix2 r k) * s (ix2 r (0 : Fin 1)) * l (ix2 (0 : Fin 1) k) := by
  pointwise [k0_pay2]

theorem c_ix (y : FVec Ideal S256x512 .f32) (i : Fin 1) (r : Fin 256) (k : Fin 512) : k0_pay1 (F := Ideal) y (ix3 i r k) = y (ix2 r k) := by
  pointwise [k0_pay1]

theorem q_ix (h : FVec Ideal S1x256x2048 .bf16) (w : FVec Ideal S2048x512 .bf16) (r : Fin 256) (l : Fin 512) :
    k0_pay39 (F := Ideal) h w (ix2 r l) = ∑ k : Fin 2048, h (ix3 (0 : Fin 1) r k) * w (ix2 k l) := by
  pointwise [k0_pay39]

theorem s41_ix (q : FVec Ideal S256x512 .bf16) (k : FVec Ideal S256x128 .bf16) (r m : Fin 256) :
    k0_pay41 (F := Ideal) q k (ix2 r m) = (∑ d : Fin 128, q (ix2 r (⟨0 + d.val, by omega⟩ : Fin 512)) * k (ix2 m d)) * Ideal.ofBits .f32 1035273459#32 := by
  pointwise [k0_pay41]

theorem s42_ix (q : FVec Ideal S256x512 .bf16) (k : FVec Ideal S256x128 .bf16) (r m : Fin 256) :
    k0_pay42 (F := Ideal) q k (ix2 r m) = (∑ d : Fin 128, q (ix2 r (⟨128 + d.val, by omega⟩ : Fin 512)) * k (ix2 m d)) * Ideal.ofBits .f32 1035273459#32 := by
  pointwise [k0_pay42]

theorem s43_ix (q : FVec Ideal S256x512 .bf16) (k : FVec Ideal S256x128 .bf16) (r m : Fin 256) :
    k0_pay43 (F := Ideal) q k (ix2 r m) = (∑ d : Fin 128, q (ix2 r (⟨256 + d.val, by omega⟩ : Fin 512)) * k (ix2 m d)) * Ideal.ofBits .f32 1035273459#32 := by
  pointwise [k0_pay43]

theorem s44_ix (q : FVec Ideal S256x512 .bf16) (k : FVec Ideal S256x128 .bf16) (r m : Fin 256) :
    k0_pay44 (F := Ideal) q k (ix2 r m) = (∑ d : Fin 128, q (ix2 r (⟨384 + d.val, by omega⟩ : Fin 512)) * k (ix2 m d)) * Ideal.ofBits .f32 1035273459#32 := by
  pointwise [k0_pay44]

theorem o_ix (s : FVec Ideal S256x256 .f32) (v : FVec Ideal S256x128 .bf16) (r : Fin 256) (d : Fin 128) :
    k0_pay50 (F := Ideal) s v (ix2 r d) = ∑ m : Fin 256, weight (fun n => s (ix2 r n)) m * v (ix2 m d) := by
  pointwise [k0_pay50, weight]

theorem kv_ix (a : FVec Ideal S1x256x2048 .f32) (l : FVec Ideal S1x2048 .f32) (w : FVec Ideal S2048x1024 .bf16) (m : Fin 256) (n : Fin 1024) :
    k0_pay5 (F := Ideal) a l w (ix2 m n) = ∑ k : Fin 2048, (a (ix3 (0 : Fin 1) m k)
      * Ideal.rsqrt (Ideal.div (∑ c : Fin 2048, a (ix3 (0 : Fin 1) m c) * a (ix3 (0 : Fin 1) m c)) (Ideal.ofBits .f32 1157627904#32) + Ideal.ofBits .f32 897988541#32)
      * l (ix2 (0 : Fin 1) k)) * w (ix2 k n) := by
  pointwise [k0_pay5]

/-- The heads side by side, at a column: the column's own head. -/
theorem heads_ix (o0 o1 o2 o3 : FVec Ideal S256x128 .bf16) (r : Fin 256) (g : Fin 512 → EReal)
    (h0 : ∀ d : Fin 128, o0 (ix2 r d) = g ⟨0 + d.val, by omega⟩) (h1 : ∀ d : Fin 128, o1 (ix2 r d) = g ⟨128 + d.val, by omega⟩)
    (h2 : ∀ d : Fin 128, o2 (ix2 r d) = g ⟨256 + d.val, by omega⟩) (h3 : ∀ d : Fin 128, o3 (ix2 r d) = g ⟨384 + d.val, by omega⟩) (l : Fin 512) :
    heads o0 o1 o2 o3 (ix2 r l) = g l := by
  pointwise [heads]
  by_cases a : l.val < 128
  · rw [dif_pos a]
    refine (h0 _).trans (congrArg g (Fin.ext ?_))
    show 0 + l.val = l.val; omega
  rw [dif_neg a]
  by_cases b : l.val - 128 < 128
  · rw [dif_pos b]
    refine (h1 _).trans (congrArg g (Fin.ext ?_))
    show 128 + (l.val - 128) = l.val; omega
  rw [dif_neg b]
  by_cases e : l.val - 128 - 128 < 128
  · rw [dif_pos e]
    refine (h2 _).trans (congrArg g (Fin.ext ?_))
    show 256 + (l.val - 128 - 128) = l.val; omega
  rw [dif_neg e]
  refine (h3 _).trans (congrArg g (Fin.ext ?_))
  show 384 + (l.val - 128 - 128 - 128) = l.val; omega

end Cert.MidMix

end
-- ==== Proof.MidBlock.lean ====
/- THE MIDDLE CALL, BLOCK BY BLOCK: what a grid point leaves in its block of the sum, in its block of the normalised rows, and in
   the keys and values it keeps. Every row of the block is the same function of the merged row, the input row and the keys
   and values; the tiles of two groups of 256 rows, four of 512 columns each, are brought to that function. -/
module

public import proofs.«01_k».proof.Proof.MidTile
public import Idealize.ShloMosaic.Lib.Pipeline.CanonAppend
public import Idealize.ShloMosaic.Lib.Pipeline.ReadBack

@[expose] public section

noncomputable section

namespace Cert.MidMix

open Cert.MidKernelIdeal Cert.MidKernelIdeal.Gen Cert.MidKernelIdeal.Value Idealize.ShloMosaic Idealize.ShloMosaic.TcCoe Idealize.SL.Sem

/-! ## The functions of a row -/

/-- The residual row: the input row and the merged row's projection. -/
def y1 (u x : Fin 2048 → EReal) (W : Vec Ideal S2048x2048 .bf16) (c : Fin 2048) : EReal := x c + ∑ k : Fin 2048, u k * W (ix2 k c)

/-- The reciprocal root of a row's mean square. -/
def inv (y : Fin 2048 → EReal) : EReal := Ideal.rsqrt ((∑ c : Fin 2048, y c * y c) * Ideal.ofBits .f32 973078528#32 + Ideal.ofBits .f32 897988541#32)

/-- The normalised row. -/
def nrm (y : Fin 2048 → EReal) (l : Vec Ideal S1x2048 .f32) (c : Fin 2048) : EReal := y c * inv y * l (ix2 (0 : Fin 1) c)

/-- The row's queries. -/
def qry (h : Fin 2048 → EReal) (W : Vec Ideal S2048x512 .bf16) (l : Fin 512) : EReal := ∑ k : Fin 2048, h k * W (ix2 k l)

/-- The row's score at a memory token, for the head whose columns start at `o`. -/
def score (q : Fin 512 → EReal) (kv : Vec Ideal S256x1024 .bf16) (o : ℕ) (ho : o + 128 ≤ 512) (m : Fin 256) : EReal :=
  (∑ d : Fin 128, q (⟨o + d.val, by omega⟩ : Fin 512) * kv (ix2 m (⟨o + d.val, by omega⟩ : Fin 1024))) * Ideal.ofBits .f32 1035273459#32

/-- The row's attention output at a column, by the column's own head. -/
def att (q : Fin 512 → EReal) (kv : Vec Ideal S256x1024 .bf16) (l : Fin 512) : EReal :=
  ∑ m : Fin 256, weight (score q kv (l.val / 128 * 128) (by omega)) m * kv (ix2 m (⟨512 + l.val, by omega⟩ : Fin 1024))

/-- The second residual row. -/
def y2 (y : Fin 2048 → EReal) (a : Fin 512 → EReal) (W : Vec Ideal S512x2048 .bf16) (c : Fin 2048) : EReal := y c + ∑ k : Fin 512, a k * W (ix2 k c)

/-! ## The functions of a block -/

/-- Row `r` of a block. -/
def row {e : EltTy} (G : Vec Ideal S1x512x2048 e) (r : Fin 512) : Fin 2048 → Elt Ideal e := fun c => G (ix3 (0 : Fin 1) r c)

def Y1 (x0 : Vec Ideal S1x512x2048 .bf16) (x1 : Vec Ideal S1x512x2048 .f32) (x3 : Vec Ideal S2048x2048 .bf16) : Vec Ideal S1x512x2048 .f32 :=
  fun i => y1 (row x0 (i 1)) (row x1 (i 1)) x3 (i 2)

def H (Y : Vec Ideal S1x512x2048 .f32) (l : Vec Ideal S1x2048 .f32) : Vec Ideal S1x512x2048 .bf16 := fun i => nrm (row Y (i 1)) l (i 2)

def Q (h : Vec Ideal S1x512x2048 .bf16) (W : Vec Ideal S2048x512 .bf16) : Fin 512 → Fin 512 → EReal := fun r => qry (row h r) W

def Y2 (Y : Vec Ideal S1x512x2048 .f32) (q : Fin 512 → Fin 512 → EReal) (kv : Vec Ideal S256x1024 .bf16) (W : Vec Ideal S512x2048 .bf16) :
    Vec Ideal S1x512x2048 .f32 := fun i => y2 (row Y (i 1)) (att (q (i 1)) kv) W (i 2)

/-! ## The tiles of a block -/

/-- The tile of 256 rows and 512 columns that starts at row `o` and column `c`. -/
def cut (G : Vec Ideal S1x512x2048 .f32) (o c : ℕ) (ho : o + 256 ≤ 512) (hc : c + 512 ≤ 2048) : FVec Ideal S256x512 .f32 := fun j =>
  G (ix3 (0 : Fin 1) (⟨o + (j 0).val, by have h : (j 0).val < 256 := (j 0).isLt; show _ < 512; omega⟩ : Fin 512) (⟨c + (j 1).val, by have h : (j 1).val < 512 := (j 1).isLt; show _ < 2048; omega⟩ : Fin 2048))

theorem cut_ix (G : Vec Ideal S1x512x2048 .f32) (o c : ℕ) (ho : o + 256 ≤ 512) (hc : c + 512 ≤ 2048) (r : Fin 256) (l : Fin 512) :
    cut G o c ho hc (ix2 r l) = G (ix3 (0 : Fin 1) (⟨o + r.val, by omega⟩ : Fin 512) (⟨c + l.val, by omega⟩ : Fin 2048)) := rfl

def invs (G : Vec Ideal S1x512x2048 .f32) (o : ℕ) (ho : o + 256 ≤ 512) : FVec Ideal S256x1 .f32 := fun j =>
  inv (row G (⟨o + (j 0).val, by have h : (j 0).val < 256 := (j 0).isLt; show _ < 512; omega⟩ : Fin 512))

def qcut (q : Fin 512 → Fin 512 → EReal) (o : ℕ) (ho : o + 256 ≤ 512) : FVec Ideal S256x512 .bf16 := fun j =>
  q (⟨o + (j 0).val, by have h : (j 0).val < 256 := (j 0).isLt; show _ < 512; omega⟩ : Fin 512) (j 1)

theorem emb3 {n o c w : ℕ} (h) (ho : o + n ≤ 512) (hc : c + w ≤ 2048) (i : Fin 1) (r : Fin n) (l : Fin w) :
    (Rect.unit (s := S1x512x2048) ![0, o, c] ![1, n, w] h).emb (ix3 i r l) = ix3 (0 : Fin 1) (⟨o + r.val, by omega⟩ : Fin 512) (⟨c + l.val, by omega⟩ : Fin 2048) := by
  funext a; apply Fin.ext
  match a with
  | ⟨0, _⟩ => show 0 + 1 * i.val = 0; omega
  | ⟨1, _⟩ => show o + 1 * r.val = o + r.val; omega
  | ⟨2, _⟩ => show c + 1 * l.val = c + l.val; omega

theorem emb2 {R C n o c w : ℕ} (h) (ho : o + n ≤ R) (hc : c + w ≤ C) (r : Fin n) (l : Fin w) :
    (Rect.unit (s := Shape.mk 2 ![R, C]) ![o, c] ![n, w] h).emb (ix2 r l) = ix2 (⟨o + r.val, by omega⟩ : Fin R) (⟨c + l.val, by omega⟩ : Fin C) := by
  funext a; apply Fin.ext
  match a with
  | ⟨0, _⟩ => show o + 1 * r.val = o + r.val; omega
  | ⟨1, _⟩ => show c + 1 * l.val = c + l.val; omega

/-- A tile of the first residual. -/
theorem tile_y1 (x0 : Vec Ideal S1x512x2048 .bf16) (x1 : Vec Ideal S1x512x2048 .f32) (x3 : Vec Ideal S2048x2048 .bf16) {o c : ℕ} {h0} {h1} {h3}
    (ho : o + 256 ≤ 512) (hc : c + 512 ≤ 2048) :
    k0_pay7 (F := Ideal) (View.ld x0 (Rect.unit ![0, o, 0] ![1, 256, 2048] h0)) (View.ld x1 (Rect.unit ![0, o, c] ![1, 256, 512] h1)) (View.ld x3 (Rect.unit ![0, c] ![2048, 512] h3))
      = cut (Y1 x0 x1 x3) o c ho hc := by
  funext j
  idx_vars j
  rw [y_ix, cut_ix]
  show x1 ((Rect.unit (s := S1x512x2048) ![0, o, c] ![1, 256, 512] h1).emb (ix3 (0 : Fin 1) j0 j1)) + ∑ k : Fin 2048,
    x0 ((Rect.unit (s := S1x512x2048) ![0, o, 0] ![1, 256, 2048] h0).emb (ix3 (0 : Fin 1) j0 k)) * x3 ((Rect.unit (s := S2048x2048) ![0, c] ![2048, 512] h3).emb (ix2 k j1)) = _
  rw [emb3 h1 ho hc]
  simp only [emb3 h0 ho (le_refl 2048)]
  refine congrArg₂ (· + ·) rfl (Finset.sum_congr rfl fun k _ => ?_)
  refine congrArg₂ (· * ·) (congrArg x0 ?_) (congrArg x3 ?_)
  · congr 1; apply Fin.ext; show 0 + k.val = k.val; omega
  · refine (emb2 h3 (by decide) hc k j1).trans ?_
    congr 1; apply Fin.ext; show 0 + k.val = k.val; omega

/-- The reciprocal roots of a group of rows, from its four tiles. -/
theorem tile_inv (G : Vec Ideal S1x512x2048 .f32) (o : ℕ) (ho : o + 256 ≤ 512) {h0 h1 h2 h3} :
    scl (cut G o 0 ho h0) (cut G o 512 ho h1) (cut G o 1024 ho h2) (cut G o 1536 ho h3) = invs G o ho := by
  funext j
  show Ideal.rsqrt _ = Ideal.rsqrt _
  refine congrArg (fun s => Ideal.rsqrt (s * _ + _)) ?_
  rw [Fin.sum_univ_tiles 4 512 rfl, Fin.sum_univ_four]
  rfl

/-- A tile of the normalised rows, as a load of the block. -/
theorem tile_h (G : Vec Ideal S1x512x2048 .f32) (l : Vec Ideal S1x2048 .f32) (o c : ℕ) (ho : o + 256 ≤ 512) (hc : c + 512 ≤ 2048) {h} (h') :
    k0_pay2 (F := Ideal) (cut G o c ho hc) (invs G o ho) (View.ld l (Rect.unit ![0, c] ![1, 512] h))
      = View.ld (H G l) (Rect.unit ![0, o, c] ![1, 256, 512] h') := by
  funext j
  idx_vars j
  rw [h_ix, cut_ix]
  show _ = H G l ((Rect.unit (s := S1x512x2048) ![0, o, c] ![1, 256, 512] h').emb (ix3 j0 j1 j2))
  rw [emb3 h' ho hc]
  show _ * _ * l ((Rect.unit (s := S1x2048) ![0, c] ![1, 512] h).emb (ix2 (0 : Fin 1) j2)) = _
  rw [show (Rect.unit (s := S1x2048) ![0, c] ![1, 512] h).emb (ix2 (0 : Fin 1) j2) = ix2 (0 : Fin 1) (⟨c + j2.val, by omega⟩ : Fin 2048) from
    emb2 h (by decide) hc 0 j2]
  rfl

/-- A tile of a block, as a load of the block. -/
theorem tile_c (G : Vec Ideal S1x512x2048 .f32) (o c : ℕ) (ho : o + 256 ≤ 512) (hc : c + 512 ≤ 2048) (h') :
    k0_pay1 (F := Ideal) (cut G o c ho hc) = View.ld G (Rect.unit ![0, o, c] ![1, 256, 512] h') := by
  funext j
  idx_vars j
  rw [c_ix, cut_ix]
  show _ = G ((Rect.unit (s := S1x512x2048) ![0, o, c] ![1, 256, 512] h').emb (ix3 j0 j1 j2))
  rw [emb3 h' ho hc]

/-- The queries of a group of rows. -/
theorem tile_q (h : Vec Ideal S1x512x2048 .bf16) (W : Vec Ideal S2048x512 .bf16) {o : ℕ} {h'} (ho : o + 256 ≤ 512) :
    k0_pay39 (F := Ideal) (View.ld h (Rect.unit ![0, o, 0] ![1, 256, 2048] h')) W = qcut (Q h W) o ho := by
  funext j
  idx_vars j
  rw [q_ix]
  show (∑ k : Fin 2048, h ((Rect.unit (s := S1x512x2048) ![0, o, 0] ![1, 256, 2048] h').emb (ix3 (0 : Fin 1) j0 k)) * W (ix2 k j1)) = ∑ k : Fin 2048, h (ix3 (0 : Fin 1) (⟨o + j0.val, by omega⟩ : Fin 512) k) * W (ix2 k j1)
  refine Finset.sum_congr rfl fun k _ => ?_
  rw [emb3 h' ho (le_refl 2048)]
  refine congrArg₂ (· * ·) (congrArg h ?_) rfl
  congr 1; apply Fin.ext; show 0 + k.val = k.val; omega

/-- A head's share of the attention output of a group of rows. -/
def ocut (q : Fin 512 → Fin 512 → EReal) (kv : Vec Ideal S256x1024 .bf16) (o : ℕ) (ho : o + 256 ≤ 512) : FVec Ideal S256x512 .bf16 := fun j =>
  att (q (⟨o + (j 0).val, by have h : (j 0).val < 256 := (j 0).isLt; show _ < 512; omega⟩ : Fin 512)) kv (j 1)

theorem head41 (q : Fin 512 → Fin 512 → EReal) (kv : Vec Ideal S256x1024 .bf16) (o : ℕ) (ho : o + 256 ≤ 512) (hk) (hv) (r : Fin 256) (d : Fin 128) :
    k0_pay50 (F := Ideal) (k0_pay41 (F := Ideal) (qcut q o ho) (View.ld kv (Rect.unit ![0, 0] ![256, 128] hk))) (View.ld kv (Rect.unit ![0, 512] ![256, 128] hv)) (ix2 r d)
      = att (q (⟨o + r.val, by omega⟩ : Fin 512)) kv (⟨0 + d.val, by omega⟩ : Fin 512) := by
  rw [o_ix]
  show _ = ∑ m : Fin 256, _
  refine Finset.sum_congr rfl fun m _ => ?_
  refine congrArg₂ (· * ·) (congrFun (congrArg weight (funext fun n => ?_)) m) (congrArg kv ?_)
  · rw [s41_ix]
    show (∑ e : Fin 128, _ * kv ((Rect.unit (s := S256x1024) ![0, 0] ![256, 128] hk).emb (ix2 n e))) * _ = (∑ e : Fin 128, _) * _
    refine congrArg (· * _) (Finset.sum_congr rfl fun e _ => ?_)
    have ed : (0 + d.val) / 128 * 128 = 0 := by omega
    refine congrArg₂ (· * ·) (congrArg (q _) (Fin.ext ?_)) (congrArg kv ?_)
    · show 0 + e.val = (0 + d.val) / 128 * 128 + e.val; omega
    · refine (emb2 hk (by decide) (by decide) n e).trans ?_
      exact congrArg₂ ix2 (Fin.ext (by show 0 + n.val = n.val; omega)) (Fin.ext (by show 0 + e.val = (0 + d.val) / 128 * 128 + e.val; omega))
  · refine (emb2 hv (by decide) (by decide) m d).trans ?_
    exact congrArg₂ ix2 (Fin.ext (by show 0 + m.val = m.val; omega)) (Fin.ext (by show 512 + d.val = 512 + (0 + d.val); omega))

theorem head42 (q : Fin 512 → Fin 512 → EReal) (kv : Vec Ideal S256x1024 .bf16) (o : ℕ) (ho : o + 256 ≤ 512) (hk) (hv) (r : Fin 256) (d : Fin 128) :
    k0_pay50 (F := Ideal) (k0_pay42 (F := Ideal) (qcut q o ho) (View.ld kv (Rect.unit ![0, 128] ![256, 128] hk))) (View.ld kv (Rect.unit ![0, 640] ![256, 128] hv)) (ix2 r d)
      = att (q (⟨o + r.val, by omega⟩ : Fin 512)) kv (⟨128 + d.val, by omega⟩ : Fin 512) := by
  rw [o_ix]
  show _ = ∑ m : Fin 256, _
  refine Finset.sum_congr rfl fun m _ => ?_
  refine congrArg₂ (· * ·) (congrFun (congrArg weight (funext fun n => ?_)) m) (congrArg kv ?_)
  · rw [s42_ix]
    show (∑ e : Fin 128, _ * kv ((Rect.unit (s := S256x1024) ![0, 128] ![256, 128] hk).emb (ix2 n e))) * _ = (∑ e : Fin 128, _) * _
    refine congrArg (· * _) (Finset.sum_congr rfl fun e _ => ?_)
    have ed : (128 + d.val) / 128 * 128 = 128 := by omega
    refine congrArg₂ (· * ·) (congrArg (q _) (Fin.ext ?_)) (congrArg kv ?_)
    · show 128 + e.val = (128 + d.val) / 128 * 128 + e.val; omega
    · refine (emb2 hk (by decide) (by decide) n e).trans ?_
      exact congrArg₂ ix2 (Fin.ext (by show 0 + n.val = n.val; omega)) (Fin.ext (by show 128 + e.val = (128 + d.val) / 128 * 128 + e.val; omega))
  · refine (emb2 hv (by decide) (by decide) m d).trans ?_
    exact congrArg₂ ix2 (Fin.ext (by show 0 + m.val = m.val; omega)) (Fin.ext (by show 640 + d.val = 512 + (128 + d.val); omega))

theorem head43 (q : Fin 512 → Fin 512 → EReal) (kv : Vec Ideal S256x1024 .bf16) (o : ℕ) (ho : o + 256 ≤ 512) (hk) (hv) (r : Fin 256) (d : Fin 128) :
    k0_pay50 (F := Ideal) (k0_pay43 (F := Ideal) (qcut q o ho) (View.ld kv (Rect.unit ![0, 256] ![256, 128] hk))) (View.ld kv (Rect.unit ![0, 768] ![256, 128] hv)) (ix2 r d)
      = att (q (⟨o + r.val, by omega⟩ : Fin 512)) kv (⟨256 + d.val, by omega⟩ : Fin 512) := by
  rw [o_ix]
  show _ = ∑ m : Fin 256, _
  refine Finset.sum_congr rfl fun m _ => ?_
  refine congrArg₂ (· * ·) (congrFun (congrArg weight (funext fun n => ?_)) m) (congrArg kv ?_)
  · rw [s43_ix]
    show (∑ e : Fin 128, _ * kv ((Rect.unit (s := S256x1024) ![0, 256] ![256, 128] hk).emb (ix2 n e))) * _ = (∑ e : Fin 128, _) * _
    refine congrArg (· * _) (Finset.sum_congr rfl fun e _ => ?_)
    have ed : (256 + d.val) / 128 * 128 = 256 := by omega
    refine congrArg₂ (· * ·) (congrArg (q _) (Fin.ext ?_)) (congrArg kv ?_)
    · show 256 + e.val = (256 + d.val) / 128 * 128 + e.val; omega
    · refine (emb2 hk (by decide) (by decide) n e).trans ?_
      exact congrArg₂ ix2 (Fin.ext (by show 0 + n.val = n.val; omega)) (Fin.ext (by show 256 + e.val = (256 + d.val) / 128 * 128 + e.val; omega))
  · refine (emb2 hv (by decide) (by decide) m d).trans ?_
    exact congrArg₂ ix2 (Fin.ext (by show 0 + m.val = m.val; omega)) (Fin.ext (by show 768 + d.val = 512 + (256 + d.val); omega))

theorem head44 (q : Fin 512 → Fin 512 → EReal) (kv : Vec Ideal S256x1024 .bf16) (o : ℕ) (ho : o + 256 ≤ 512) (hk) (hv) (r : Fin 256) (d : Fin 128) :
    k0_pay50 (F := Ideal) (k0_pay44 (F := Ideal) (qcut q o ho) (View.ld kv (Rect.unit ![0, 384] ![256, 128] hk))) (View.ld kv (Rect.unit ![0, 896] ![256, 128] hv)) (ix2 r d)
      = att (q (⟨o + r.val, by omega⟩ : Fin 512)) kv (⟨384 + d.val, by omega⟩ : Fin 512) := by
  rw [o_ix]
  show _ = ∑ m : Fin 256, _
  refine Finset.sum_congr rfl fun m _ => ?_
  refine congrArg₂ (· * ·) (congrFun (congrArg weight (funext fun n => ?_)) m) (congrArg kv ?_)
  · rw [s44_ix]
    show (∑ e : Fin 128, _ * kv ((Rect.unit (s := S256x1024) ![0, 384] ![256, 128] hk).emb (ix2 n e))) * _ = (∑ e : Fin 128, _) * _
    refine congrArg (· * _) (Finset.sum_congr rfl fun e _ => ?_)
    have ed : (384 + d.val) / 128 * 128 = 384 := by omega
    refine congrArg₂ (· * ·) (congrArg (q _) (Fin.ext ?_)) (congrArg kv ?_)
    · show 384 + e.val = (384 + d.val) / 128 * 128 + e.val; omega
    · refine (emb2 hk (by decide) (by decide) n e).trans ?_
      exact congrArg₂ ix2 (Fin.ext (by show 0 + n.val = n.val; omega)) (Fin.ext (by show 384 + e.val = (384 + d.val) / 128 * 128 + e.val; omega))
  · refine (emb2 hv (by decide) (by decide) m d).trans ?_
    exact congrArg₂ ix2 (Fin.ext (by show 0 + m.val = m.val; omega)) (Fin.ext (by show 896 + d.val = 512 + (384 + d.val); omega))

/-- The attention output of a group of rows: its four heads side by side. -/
theorem tile_o (q : Fin 512 → Fin 512 → EReal) (kv : Vec Ideal S256x1024 .bf16) (o : ℕ) (ho : o + 256 ≤ 512) {k0 k1 k2 k3 v0 v1 v2 v3} :
    heads (k0_pay50 (F := Ideal) (k0_pay41 (F := Ideal) (qcut q o ho) (View.ld kv (Rect.unit ![0, 0] ![256, 128] k0))) (View.ld kv (Rect.unit ![0, 512] ![256, 128] v0)))
      (k0_pay50 (F := Ideal) (k0_pay42 (F := Ideal) (qcut q o ho) (View.ld kv (Rect.unit ![0, 128] ![256, 128] k1))) (View.ld kv (Rect.unit ![0, 640] ![256, 128] v1)))
      (k0_pay50 (F := Ideal) (k0_pay43 (F := Ideal) (qcut q o ho) (View.ld kv (Rect.unit ![0, 256] ![256, 128] k2))) (View.ld kv (Rect.unit ![0, 768] ![256, 128] v2)))
      (k0_pay50 (F := Ideal) (k0_pay44 (F := Ideal) (qcut q o ho) (View.ld kv (Rect.unit ![0, 384] ![256, 128] k3))) (View.ld kv (Rect.unit ![0, 896] ![256, 128] v3)))
      = ocut q kv o ho := by
  funext j
  idx_vars j
  exact heads_ix _ _ _ _ j0 (att (q (⟨o + j0.val, by omega⟩ : Fin 512)) kv) (head41 q kv o ho _ _ j0) (head42 q kv o ho _ _ j0)
    (head43 q kv o ho _ _ j0) (head44 q kv o ho _ _ j0) j1

/-- A tile of the second residual. -/
theorem tile_y2 (Y : Vec Ideal S1x512x2048 .f32) (q : Fin 512 → Fin 512 → EReal) (kv : Vec Ideal S256x1024 .bf16) (W : Vec Ideal S512x2048 .bf16) {o c : ℕ} {h1} {h3}
    (ho : o + 256 ≤ 512) (hc : c + 512 ≤ 2048) :
    k0_pay61 (F := Ideal) (ocut q kv o ho) (View.ld Y (Rect.unit ![0, o, c] ![1, 256, 512] h1)) (View.ld W (Rect.unit ![0, c] ![512, 512] h3))
      = cut (Y2 Y q kv W) o c ho hc := by
  funext j
  idx_vars j
  rw [y2_ix, cut_ix]
  show Y ((Rect.unit (s := S1x512x2048) ![0, o, c] ![1, 256, 512] h1).emb (ix3 (0 : Fin 1) j0 j1)) + ∑ k : Fin 512,
    _ * W ((Rect.unit (s := S512x2048) ![0, c] ![512, 512] h3).emb (ix2 k j1)) = _
  rw [emb3 h1 ho hc]
  refine congrArg₂ (· + ·) rfl (Finset.sum_congr rfl fun k _ => ?_)
  refine congrArg₂ (· * ·) rfl (congrArg W ?_)
  refine (emb2 h3 (by decide) hc k j1).trans ?_
  congr 1; apply Fin.ext; show 0 + k.val = k.val; omega

theorem hz : (![0, 0] : Fin 2 → Nat) = fun _ => 0 := funext fun a => by fin_cases a <;> rfl
theorem hz3 : (![0, 0, 0] : Fin 3 → Nat) = fun _ => 0 := funext fun a => by fin_cases a <;> rfl

/-- The eight tiles of a block, stored, are the block. -/
theorem canon_c (G : Vec Ideal S1x512x2048 .f32) (L' : List (View.Piece (Elt Ideal) S1x512x2048 .f32)) {i256_1536 i256_1024 i256_512 i256_0 i0_1536 i0_1024 i0_512 i0_0 a256_1536 b256_1536 a256_1024 b256_1024 a256_512 b256_512 a256_0 b256_0 a0_1536 b0_1536 a0_1024 b0_1024 a0_512 b0_512 a0_0 b0_0} :
    View.canon (⟨Rect.unit ![0, 256, 1536] ![1, 256, 512] i256_1536, k0_pay1 (F := Ideal) (cut G 256 1536 a256_1536 b256_1536)⟩ :: ⟨Rect.unit ![0, 256, 1024] ![1, 256, 512] i256_1024, k0_pay1 (F := Ideal) (cut G 256 1024 a256_1024 b256_1024)⟩ :: ⟨Rect.unit ![0, 256, 512] ![1, 256, 512] i256_512, k0_pay1 (F := Ideal) (cut G 256 512 a256_512 b256_512)⟩ :: ⟨Rect.unit ![0, 256, 0] ![1, 256, 512] i256_0, k0_pay1 (F := Ideal) (cut G 256 0 a256_0 b256_0)⟩ :: ⟨Rect.unit ![0, 0, 1536] ![1, 256, 512] i0_1536, k0_pay1 (F := Ideal) (cut G 0 1536 a0_1536 b0_1536)⟩ :: ⟨Rect.unit ![0, 0, 1024] ![1, 256, 512] i0_1024, k0_pay1 (F := Ideal) (cut G 0 1024 a0_1024 b0_1024)⟩ :: ⟨Rect.unit ![0, 0, 512] ![1, 256, 512] i0_512, k0_pay1 (F := Ideal) (cut G 0 512 a0_512 b0_512)⟩ :: ⟨Rect.unit ![0, 0, 0] ![1, 256, 512] i0_0, k0_pay1 (F := Ideal) (cut G 0 0 a0_0 b0_0)⟩ :: L') = G := by
  funext y
  refine View.canon_append_of_pieces G L' [⟨Rect.unit ![0, 256, 1536] ![1, 256, 512] i256_1536, k0_pay1 (F := Ideal) (cut G 256 1536 a256_1536 b256_1536)⟩, ⟨Rect.unit ![0, 256, 1024] ![1, 256, 512] i256_1024, k0_pay1 (F := Ideal) (cut G 256 1024 a256_1024 b256_1024)⟩, ⟨Rect.unit ![0, 256, 512] ![1, 256, 512] i256_512, k0_pay1 (F := Ideal) (cut G 256 512 a256_512 b256_512)⟩, ⟨Rect.unit ![0, 256, 0] ![1, 256, 512] i256_0, k0_pay1 (F := Ideal) (cut G 256 0 a256_0 b256_0)⟩, ⟨Rect.unit ![0, 0, 1536] ![1, 256, 512] i0_1536, k0_pay1 (F := Ideal) (cut G 0 1536 a0_1536 b0_1536)⟩, ⟨Rect.unit ![0, 0, 1024] ![1, 256, 512] i0_1024, k0_pay1 (F := Ideal) (cut G 0 1024 a0_1024 b0_1024)⟩, ⟨Rect.unit ![0, 0, 512] ![1, 256, 512] i0_512, k0_pay1 (F := Ideal) (cut G 0 512 a0_512 b0_512)⟩, ⟨Rect.unit ![0, 0, 0] ![1, 256, 512] i0_0, k0_pay1 (F := Ideal) (cut G 0 0 a0_0 b0_0)⟩] ?_ y ?_
  · repeat' refine List.forall_mem_cons.mpr ⟨?_, ?_⟩
    all_goals first
      | exact List.forall_mem_nil _
      | exact fun j => congrFun (tile_c _ _ _ (by decide) (by decide) (by assumption)) j
  · exact View.cover_of_tiledL ([⟨Rect.unit ![0, 256, 1536] ![1, 256, 512] i256_1536, k0_pay1 (F := Ideal) (cut G 256 1536 a256_1536 b256_1536)⟩, ⟨Rect.unit ![0, 256, 1024] ![1, 256, 512] i256_1024, k0_pay1 (F := Ideal) (cut G 256 1024 a256_1024 b256_1024)⟩, ⟨Rect.unit ![0, 256, 512] ![1, 256, 512] i256_512, k0_pay1 (F := Ideal) (cut G 256 512 a256_512 b256_512)⟩, ⟨Rect.unit ![0, 256, 0] ![1, 256, 512] i256_0, k0_pay1 (F := Ideal) (cut G 256 0 a256_0 b256_0)⟩, ⟨Rect.unit ![0, 0, 1536] ![1, 256, 512] i0_1536, k0_pay1 (F := Ideal) (cut G 0 1536 a0_1536 b0_1536)⟩, ⟨Rect.unit ![0, 0, 1024] ![1, 256, 512] i0_1024, k0_pay1 (F := Ideal) (cut G 0 1024 a0_1024 b0_1024)⟩, ⟨Rect.unit ![0, 0, 512] ![1, 256, 512] i0_512, k0_pay1 (F := Ideal) (cut G 0 512 a0_512 b0_512)⟩, ⟨Rect.unit ![0, 0, 0] ![1, 256, 512] i0_0, k0_pay1 (F := Ideal) (cut G 0 0 a0_0 b0_0)⟩] : List (View.Piece (Elt Ideal) S1x512x2048 .f32)) ![1, 256, 512] (by sl_kernel_rfl) y

/-- The eight tiles of the normalised rows, stored, are the block of normalised rows. -/
theorem canon_h (G : Vec Ideal S1x512x2048 .f32) (l : Vec Ideal S1x2048 .f32) (L' : List (View.Piece (Elt Ideal) S1x512x2048 .bf16)) {i256_1536 i256_1024 i256_512 i256_0 i0_1536 i0_1024 i0_512 i0_0 a256_1536 b256_1536 a256_1024 b256_1024 a256_512 b256_512 a256_0 b256_0 a0_1536 b0_1536 a0_1024 b0_1024 a0_512 b0_512 a0_0 b0_0 l256_1536 l256_1024 l256_512 l256_0 l0_1536 l0_1024 l0_512 l0_0} :
    View.canon (⟨Rect.unit ![0, 256, 1536] ![1, 256, 512] i256_1536, k0_pay2 (F := Ideal) (cut G 256 1536 a256_1536 b256_1536) (invs G 256 a256_1536) (View.ld l (Rect.unit ![0, 1536] ![1, 512] l256_1536))⟩ :: ⟨Rect.unit ![0, 256, 1024] ![1, 256, 512] i256_1024, k0_pay2 (F := Ideal) (cut G 256 1024 a256_1024 b256_1024) (invs G 256 a256_1024) (View.ld l (Rect.unit ![0, 1024] ![1, 512] l256_1024))⟩ :: ⟨Rect.unit ![0, 256, 512] ![1, 256, 512] i256_512, k0_pay2 (F := Ideal) (cut G 256 512 a256_512 b256_512) (invs G 256 a256_512) (View.ld l (Rect.unit ![0, 512] ![1, 512] l256_512))⟩ :: ⟨Rect.unit ![0, 256, 0] ![1, 256, 512] i256_0, k0_pay2 (F := Ideal) (cut G 256 0 a256_0 b256_0) (invs G 256 a256_0) (View.ld l (Rect.unit ![0, 0] ![1, 512] l256_0))⟩ :: ⟨Rect.unit ![0, 0, 1536] ![1, 256, 512] i0_1536, k0_pay2 (F := Ideal) (cut G 0 1536 a0_1536 b0_1536) (invs G 0 a0_1536) (View.ld l (Rect.unit ![0, 1536] ![1, 512] l0_1536))⟩ :: ⟨Rect.unit ![0, 0, 1024] ![1, 256, 512] i0_1024, k0_pay2 (F := Ideal) (cut G 0 1024 a0_1024 b0_1024) (invs G 0 a0_1024) (View.ld l (Rect.unit ![0, 1024] ![1, 512] l0_1024))⟩ :: ⟨Rect.unit ![0, 0, 512] ![1, 256, 512] i0_512, k0_pay2 (F := Ideal) (cut G 0 512 a0_512 b0_512) (invs G 0 a0_512) (View.ld l (Rect.unit ![0, 512] ![1, 512] l0_512))⟩ :: ⟨Rect.unit ![0, 0, 0] ![1, 256, 512] i0_0, k0_pay2 (F := Ideal) (cut G 0 0 a0_0 b0_0) (invs G 0 a0_0) (View.ld l (Rect.unit ![0, 0] ![1, 512] l0_0))⟩ :: L') = H G l := by
  funext y
  refine View.canon_append_of_pieces (H G l) L' [⟨Rect.unit ![0, 256, 1536] ![1, 256, 512] i256_1536, k0_pay2 (F := Ideal) (cut G 256 1536 a256_1536 b256_1536) (invs G 256 a256_1536) (View.ld l (Rect.unit ![0, 1536] ![1, 512] l256_1536))⟩, ⟨Rect.unit ![0, 256, 1024] ![1, 256, 512] i256_1024, k0_pay2 (F := Ideal) (cut G 256 1024 a256_1024 b256_1024) (invs G 256 a256_1024) (View.ld l (Rect.unit ![0, 1024] ![1, 512] l256_1024))⟩, ⟨Rect.unit ![0, 256, 512] ![1, 256, 512] i256_512, k0_pay2 (F := Ideal) (cut G 256 512 a256_512 b256_512) (invs G 256 a256_512) (View.ld l (Rect.unit ![0, 512] ![1, 512] l256_512))⟩, ⟨Rect.unit ![0, 256, 0] ![1, 256, 512] i256_0, k0_pay2 (F := Ideal) (cut G 256 0 a256_0 b256_0) (invs G 256 a256_0) (View.ld l (Rect.unit ![0, 0] ![1, 512] l256_0))⟩, ⟨Rect.unit ![0, 0, 1536] ![1, 256, 512] i0_1536, k0_pay2 (F := Ideal) (cut G 0 1536 a0_1536 b0_1536) (invs G 0 a0_1536) (View.ld l (Rect.unit ![0, 1536] ![1, 512] l0_1536))⟩, ⟨Rect.unit ![0, 0, 1024] ![1, 256, 512] i0_1024, k0_pay2 (F := Ideal) (cut G 0 1024 a0_1024 b0_1024) (invs G 0 a0_1024) (View.ld l (Rect.unit ![0, 1024] ![1, 512] l0_1024))⟩, ⟨Rect.unit ![0, 0, 512] ![1, 256, 512] i0_512, k0_pay2 (F := Ideal) (cut G 0 512 a0_512 b0_512) (invs G 0 a0_512) (View.ld l (Rect.unit ![0, 512] ![1, 512] l0_512))⟩, ⟨Rect.unit ![0, 0, 0] ![1, 256, 512] i0_0, k0_pay2 (F := Ideal) (cut G 0 0 a0_0 b0_0) (invs G 0 a0_0) (View.ld l (Rect.unit ![0, 0] ![1, 512] l0_0))⟩] ?_ y ?_
  · repeat' refine List.forall_mem_cons.mpr ⟨?_, ?_⟩
    all_goals first
      | exact List.forall_mem_nil _
      | exact fun j => congrFun (tile_h _ _ _ _ (by decide) (by decide) (by assumption)) j
  · exact View.cover_of_tiledL ([⟨Rect.unit ![0, 256, 1536] ![1, 256, 512] i256_1536, k0_pay2 (F := Ideal) (cut G 256 1536 a256_1536 b256_1536) (invs G 256 a256_1536) (View.ld l (Rect.unit ![0, 1536] ![1, 512] l256_1536))⟩, ⟨Rect.unit ![0, 256, 1024] ![1, 256, 512] i256_1024, k0_pay2 (F := Ideal) (cut G 256 1024 a256_1024 b256_1024) (invs G 256 a256_1024) (View.ld l (Rect.unit ![0, 1024] ![1, 512] l256_1024))⟩, ⟨Rect.unit ![0, 256, 512] ![1, 256, 512] i256_512, k0_pay2 (F := Ideal) (cut G 256 512 a256_512 b256_512) (invs G 256 a256_512) (View.ld l (Rect.unit ![0, 512] ![1, 512] l256_512))⟩, ⟨Rect.unit ![0, 256, 0] ![1, 256, 512] i256_0, k0_pay2 (F := Ideal) (cut G 256 0 a256_0 b256_0) (invs G 256 a256_0) (View.ld l (Rect.unit ![0, 0] ![1, 512] l256_0))⟩, ⟨Rect.unit ![0, 0, 1536] ![1, 256, 512] i0_1536, k0_pay2 (F := Ideal) (cut G 0 1536 a0_1536 b0_1536) (invs G 0 a0_1536) (View.ld l (Rect.unit ![0, 1536] ![1, 512] l0_1536))⟩, ⟨Rect.unit ![0, 0, 1024] ![1, 256, 512] i0_1024, k0_pay2 (F := Ideal) (cut G 0 1024 a0_1024 b0_1024) (invs G 0 a0_1024) (View.ld l (Rect.unit ![0, 1024] ![1, 512] l0_1024))⟩, ⟨Rect.unit ![0, 0, 512] ![1, 256, 512] i0_512, k0_pay2 (F := Ideal) (cut G 0 512 a0_512 b0_512) (invs G 0 a0_512) (View.ld l (Rect.unit ![0, 512] ![1, 512] l0_512))⟩, ⟨Rect.unit ![0, 0, 0] ![1, 256, 512] i0_0, k0_pay2 (F := Ideal) (cut G 0 0 a0_0 b0_0) (invs G 0 a0_0) (View.ld l (Rect.unit ![0, 0] ![1, 512] l0_0))⟩] : List (View.Piece (Elt Ideal) S1x512x2048 .bf16)) ![1, 256, 512] (by sl_kernel_rfl) y

/-- What was stored tile by tile is read back from the block. -/
theorem read_c {sig : RefSig} {κ : Kind} {sp : Space} (v : View sig κ sp S1x512x2048 .f32) (G : Vec Ideal S1x512x2048 .f32) (L' : List (View.Piece (Elt Ideal) S1x512x2048 .f32)) (B : Rect S1x512x2048) {i256_1536 i256_1024 i256_512 i256_0 i0_1536 i0_1024 i0_512 i0_0 a256_1536 b256_1536 a256_1024 b256_1024 a256_512 b256_512 a256_0 b256_0 a0_1536 b0_1536 a0_1024 b0_1024 a0_512 b0_512 a0_0 b0_0} :
    v.readCov (⟨Rect.unit ![0, 256, 1536] ![1, 256, 512] i256_1536, k0_pay1 (F := Ideal) (cut G 256 1536 a256_1536 b256_1536)⟩ :: ⟨Rect.unit ![0, 256, 1024] ![1, 256, 512] i256_1024, k0_pay1 (F := Ideal) (cut G 256 1024 a256_1024 b256_1024)⟩ :: ⟨Rect.unit ![0, 256, 512] ![1, 256, 512] i256_512, k0_pay1 (F := Ideal) (cut G 256 512 a256_512 b256_512)⟩ :: ⟨Rect.unit ![0, 256, 0] ![1, 256, 512] i256_0, k0_pay1 (F := Ideal) (cut G 256 0 a256_0 b256_0)⟩ :: ⟨Rect.unit ![0, 0, 1536] ![1, 256, 512] i0_1536, k0_pay1 (F := Ideal) (cut G 0 1536 a0_1536 b0_1536)⟩ :: ⟨Rect.unit ![0, 0, 1024] ![1, 256, 512] i0_1024, k0_pay1 (F := Ideal) (cut G 0 1024 a0_1024 b0_1024)⟩ :: ⟨Rect.unit ![0, 0, 512] ![1, 256, 512] i0_512, k0_pay1 (F := Ideal) (cut G 0 512 a0_512 b0_512)⟩ :: ⟨Rect.unit ![0, 0, 0] ![1, 256, 512] i0_0, k0_pay1 (F := Ideal) (cut G 0 0 a0_0 b0_0)⟩ :: L') B.toLoadRect = View.ld G B := by
  rw [View.readCov_eq_canon', canon_c]

theorem read_h {sig : RefSig} {κ : Kind} {sp : Space} (v : View sig κ sp S1x512x2048 .bf16) (G : Vec Ideal S1x512x2048 .f32) (l : Vec Ideal S1x2048 .f32) (L' : List (View.Piece (Elt Ideal) S1x512x2048 .bf16)) (B : Rect S1x512x2048) {i256_1536 i256_1024 i256_512 i256_0 i0_1536 i0_1024 i0_512 i0_0 a256_1536 b256_1536 a256_1024 b256_1024 a256_512 b256_512 a256_0 b256_0 a0_1536 b0_1536 a0_1024 b0_1024 a0_512 b0_512 a0_0 b0_0 l256_1536 l256_1024 l256_512 l256_0 l0_1536 l0_1024 l0_512 l0_0} :
    v.readCov (⟨Rect.unit ![0, 256, 1536] ![1, 256, 512] i256_1536, k0_pay2 (F := Ideal) (cut G 256 1536 a256_1536 b256_1536) (invs G 256 a256_1536) (View.ld l (Rect.unit ![0, 1536] ![1, 512] l256_1536))⟩ :: ⟨Rect.unit ![0, 256, 1024] ![1, 256, 512] i256_1024, k0_pay2 (F := Ideal) (cut G 256 1024 a256_1024 b256_1024) (invs G 256 a256_1024) (View.ld l (Rect.unit ![0, 1024] ![1, 512] l256_1024))⟩ :: ⟨Rect.unit ![0, 256, 512] ![1, 256, 512] i256_512, k0_pay2 (F := Ideal) (cut G 256 512 a256_512 b256_512) (invs G 256 a256_512) (View.ld l (Rect.unit ![0, 512] ![1, 512] l256_512))⟩ :: ⟨Rect.unit ![0, 256, 0] ![1, 256, 512] i256_0, k0_pay2 (F := Ideal) (cut G 256 0 a256_0 b256_0) (invs G 256 a256_0) (View.ld l (Rect.unit ![0, 0] ![1, 512] l256_0))⟩ :: ⟨Rect.unit ![0, 0, 1536] ![1, 256, 512] i0_1536, k0_pay2 (F := Ideal) (cut G 0 1536 a0_1536 b0_1536) (invs G 0 a0_1536) (View.ld l (Rect.unit ![0, 1536] ![1, 512] l0_1536))⟩ :: ⟨Rect.unit ![0, 0, 1024] ![1, 256, 512] i0_1024, k0_pay2 (F := Ideal) (cut G 0 1024 a0_1024 b0_1024) (invs G 0 a0_1024) (View.ld l (Rect.unit ![0, 1024] ![1, 512] l0_1024))⟩ :: ⟨Rect.unit ![0, 0, 512] ![1, 256, 512] i0_512, k0_pay2 (F := Ideal) (cut G 0 512 a0_512 b0_512) (invs G 0 a0_512) (View.ld l (Rect.unit ![0, 512] ![1, 512] l0_512))⟩ :: ⟨Rect.unit ![0, 0, 0] ![1, 256, 512] i0_0, k0_pay2 (F := Ideal) (cut G 0 0 a0_0 b0_0) (invs G 0 a0_0) (View.ld l (Rect.unit ![0, 0] ![1, 512] l0_0))⟩ :: L') B.toLoadRect = View.ld (H G l) B := by
  rw [View.readCov_eq_canon', canon_h]

/-- The tile stored last is read back. -/
theorem read_one {sig : RefSig} {κ : Kind} {sp : Space} (v : View sig κ sp S1x512x2048 .f32) (G : Vec Ideal S1x512x2048 .f32) (L' : List (View.Piece (Elt Ideal) S1x512x2048 .f32))
    {o c : ℕ} {ho : o + 256 ≤ 512} {hc : c + 512 ≤ 2048} {i} :
    v.readCov (⟨Rect.unit ![0, o, c] ![1, 256, 512] i, k0_pay1 (F := Ideal) (cut G o c ho hc)⟩ :: L') (Rect.unit ![0, o, c] ![1, 256, 512] i).toLoadRect
      = View.ld G (Rect.unit ![0, o, c] ![1, 256, 512] i) :=
  (View.readCov_cons_toLoadRect v _ _ _).trans (tile_c G o c ho hc i)

/-- The keys and values, stored whole, are read back. -/
theorem read_kv {sig : RefSig} {κ : Kind} {sp : Space} (v : View sig κ sp S256x1024 .bf16) (Z : Vec Ideal S256x1024 .bf16) (B : Rect S256x1024) {h} :
    v.readCov [⟨Rect.unit ![0, 0] ![256, 1024] h, Z⟩] B.toLoadRect = View.ld Z B :=
  View.readCov_fill v h Z [] B (by decide)

variable (c : Dev nD) (i : grid0.Coords) (arg2 : Memref sig .tc .vmem S1x512x2048 .bf16) (harg2 : arg2.IsWhole) (arg3 : Memref sig .tc .vmem S1x512x2048 .f32) (harg3 : arg3.IsWhole) (arg4 : Memref sig .tc .vmem S1x256x2048 .f32) (harg4 : arg4.IsWhole) (arg5 : Memref sig .tc .vmem S2048x2048 .bf16) (harg5 : arg5.IsWhole) (arg6 : Memref sig .tc .vmem S2048x512 .bf16) (harg6 : arg6.IsWhole) (arg7 : Memref sig .tc .vmem S2048x1024 .bf16) (harg7 : arg7.IsWhole) (arg8 : Memref sig .tc .vmem S512x2048 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x512x2048 .f32) (harg12 : arg12.IsWhole) (arg13 : Memref sig .tc .vmem S1x512x2048 .bf16) (harg13 : arg13.IsWhole) (arg14 : Memref sig .tc .vmem S256x1024 .bf16) (harg14 : arg14.IsWhole)
 (x0 : Vec Ideal S1x512x2048 .bf16) (x1 : Vec Ideal S1x512x2048 .f32) (x2 : Vec Ideal S1x256x2048 .f32) (x3 : Vec Ideal S2048x2048 .bf16) (x4 : Vec Ideal S2048x512 .bf16) (x5 : Vec Ideal S2048x1024 .bf16) (x6 : Vec Ideal S512x2048 .bf16) (x7 : Vec Ideal S1x2048 .f32) (x8 : Vec Ideal S1x2048 .f32) (x9 : Vec Ideal S1x2048 .f32)

/-- The block after the second residual. -/
abbrev sum2 (kv : Vec Ideal S256x1024 .bf16) : Vec Ideal S1x512x2048 .f32 := Y2 (Y1 x0 x1 x3) (Q (H (Y1 x0 x1 x3) x7) x4) kv x6

theorem out10_A (hc0 : cond0_0 i) : out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = sum2 x0 x1 x3 x4 x6 x7 (k0_pay5 (F := Ideal) x2 x8 x5) := by
  unfold out0_A_10
  rw [View.read_writes_junk_eq_canon]
  unfold kernelRun0_A
  dsimp only
  sl_unfold_words
  simp only [View.readAt_eq_ld, Memref.IsWhole.read_unread, View.readCov_unit_zero (S := S256x1024) _ hz, View.ld_unit_zero (S := S256x1024) hz, View.ld_unit_zero (S := S1x256x2048) hz3, View.ld_unit_zero (S := S1x2048) hz, View.ld_unit_zero (S := S2048x512) hz, View.ld_unit_zero (S := S2048x1024) hz]
  simp only [y8, y9, y10, y23, y24, y25, y26, y62, y63, y64, y76, y77, y78, y79, c3, c13, c15, c18, c20, c30, c32, c35, c37, c67, c69, c72, c74, c83, c85, h4, h19, h21, h36, h38, h73, h75, h14, h17, h31, h34, h68, h71, h84, h86, q40, s45, s47, s48, s49, o56, o57, o55, o52, o60, scl12, scl29, scl66, scl82]
  simp (discharger := decide) only [tile_y1, tile_inv]
  simp only [read_h, read_c, read_kv]
  simp (discharger := decide) only [tile_q, tile_o, tile_y2, tile_inv]
  simp (discharger := decide) only [View.readCov_skip]
  simp only [read_c, read_one]
  simp (discharger := decide) only [tile_y2, tile_inv]
  simp only [canon_c, canon_h]

theorem out11_A (hc0 : cond0_0 i) : out0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = H (sum2 x0 x1 x3 x4 x6 x7 (k0_pay5 (F := Ideal) x2 x8 x5)) x9 := by
  unfold out0_A_11
  rw [View.read_writes_junk_eq_canon]
  unfold kernelRun0_A
  dsimp only
  sl_unfold_words
  simp only [View.readAt_eq_ld, Memref.IsWhole.read_unread, View.readCov_unit_zero (S := S256x1024) _ hz, View.ld_unit_zero (S := S256x1024) hz, View.ld_unit_zero (S := S1x256x2048) hz3, View.ld_unit_zero (S := S1x2048) hz, View.ld_unit_zero (S := S2048x512) hz, View.ld_unit_zero (S := S2048x1024) hz]
  simp only [y8, y9, y10, y23, y24, y25, y26, y62, y63, y64, y76, y77, y78, y79, c3, c13, c15, c18, c20, c30, c32, c35, c37, c67, c69, c72, c74, c83, c85, h4, h19, h21, h36, h38, h73, h75, h14, h17, h31, h34, h68, h71, h84, h86, q40, s45, s47, s48, s49, o56, o57, o55, o52, o60, scl12, scl29, scl66, scl82]
  simp (discharger := decide) only [tile_y1, tile_inv]
  simp only [read_h, read_c, read_kv]
  simp (discharger := decide) only [tile_q, tile_o, tile_y2, tile_inv]
  simp (discharger := decide) only [View.readCov_skip]
  simp only [read_c, read_one]
  simp (discharger := decide) only [tile_y2, tile_inv]
  simp only [canon_c, canon_h]

theorem out10_B (hc0 : ¬cond0_0 i) (xs0 : Vec Ideal S256x1024 .bf16) : out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 = sum2 x0 x1 x3 x4 x6 x7 xs0 := by
  unfold out0_B_10
  rw [View.read_writes_junk_eq_canon]
  unfold kernelRun0_B
  dsimp only
  sl_unfold_words
  simp only [View.readAt_eq_ld, Memref.IsWhole.read_unread, View.readCov_unit_zero (S := S256x1024) _ hz, View.ld_unit_zero (S := S256x1024) hz, View.ld_unit_zero (S := S1x256x2048) hz3, View.ld_unit_zero (S := S1x2048) hz, View.ld_unit_zero (S := S2048x512) hz, View.ld_unit_zero (S := S2048x1024) hz]
  simp only [y8, y9, y10, y23, y24, y25, y26, y62, y63, y64, y76, y77, y78, y79, c3, c13, c15, c18, c20, c30, c32, c35, c37, c67, c69, c72, c74, c83, c85, h4, h19, h21, h36, h38, h73, h75, h14, h17, h31, h34, h68, h71, h84, h86, q40, s45, s47, s48, s49, o56, o57, o55, o52, o60, scl12, scl29, scl66, scl82]
  simp (discharger := decide) only [tile_y1, tile_inv]
  simp only [read_h, read_c, read_kv]
  simp (discharger := decide) only [tile_q, tile_o, tile_y2, tile_inv]
  simp (discharger := decide) only [View.readCov_skip]
  simp only [read_c, read_one]
  simp (discharger := decide) only [tile_y2, tile_inv]
  simp only [canon_c, canon_h]

theorem out11_B (hc0 : ¬cond0_0 i) (xs0 : Vec Ideal S256x1024 .bf16) : out0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 = H (sum2 x0 x1 x3 x4 x6 x7 xs0) x9 := by
  unfold out0_B_11
  rw [View.read_writes_junk_eq_canon]
  unfold kernelRun0_B
  dsimp only
  sl_unfold_words
  simp only [View.readAt_eq_ld, Memref.IsWhole.read_unread, View.readCov_unit_zero (S := S256x1024) _ hz, View.ld_unit_zero (S := S256x1024) hz, View.ld_unit_zero (S := S1x256x2048) hz3, View.ld_unit_zero (S := S1x2048) hz, View.ld_unit_zero (S := S2048x512) hz, View.ld_unit_zero (S := S2048x1024) hz]
  simp only [y8, y9, y10, y23, y24, y25, y26, y62, y63, y64, y76, y77, y78, y79, c3, c13, c15, c18, c20, c30, c32, c35, c37, c67, c69, c72, c74, c83, c85, h4, h19, h21, h36, h38, h73, h75, h14, h17, h31, h34, h68, h71, h84, h86, q40, s45, s47, s48, s49, o56, o57, o55, o52, o60, scl12, scl29, scl66, scl82]
  simp (discharger := decide) only [tile_y1, tile_inv]
  simp only [read_h, read_c, read_kv]
  simp (discharger := decide) only [tile_q, tile_o, tile_y2, tile_inv]
  simp (discharger := decide) only [View.readCov_skip]
  simp only [read_c, read_one]
  simp (discharger := decide) only [tile_y2, tile_inv]
  simp only [canon_c, canon_h]

/-- The first point of a batch leaves its keys and values. -/
theorem left_A (hc0 : cond0_0 i) : sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = k0_pay5 (F := Ideal) x2 x8 x5 := by
  unfold sout0_A_0
  rw [View.read_writes_junk_eq_canon]
  unfold kernelRun0_A
  dsimp only
  sl_unfold_words
  simp only [View.canon_unit_zero (S := S256x1024) hz, View.readAt_eq_ld, Memref.IsWhole.read_unread, View.ld_unit_zero (S := S1x256x2048) hz3, View.ld_unit_zero (S := S1x2048) hz, View.ld_unit_zero (S := S2048x1024) hz]

end Cert.MidMix

end
-- ==== Proof.Mid.lean ====
/- THE MIDDLE CALL: its two result arrays, as functions of its arguments. A grid point takes 512 rows of one of the four
   batches; the first point of a batch also stores the batch's keys and values, which the three after it read. -/
module

public import proofs.«01_k».proof.Proof.MidBlock

@[expose] public section

noncomputable section

namespace Cert.MidMix

open Cert.MidKernelIdeal Cert.MidKernelIdeal.Gen Cert.MidKernelIdeal.Value Idealize.ShloMosaic Idealize.ShloMosaic.TcCoe Idealize.SL.Sem

/-! ## The results as functions of the arguments -/

/-- A vector as a row. -/
def lift (l : Vec Ideal S2048 .f32) : Vec Ideal S1x2048 .f32 := fun i => l (ix1 (i 1 : Fin 2048))

/-- A row of the second residual, from the merged row, the input row and the batch's keys and values. -/
def rowSum (u x : Fin 2048 → EReal) (W : Vec Ideal S2048x2048 .bf16) (lc : Vec Ideal S1x2048 .f32) (Wq : Vec Ideal S2048x512 .bf16)
    (kv : Vec Ideal S256x1024 .bf16) (Wo : Vec Ideal S512x2048 .bf16) : Fin 2048 → EReal :=
  y2 (y1 u x W) (att (qry (nrm (y1 u x W) lc) Wq) kv) Wo

/-- The keys and values of a batch, from its memory rows. -/
def kvAt (a2 : Vec Ideal S4x256x2048 .f32) (a8 : Vec Ideal S2048 .f32) (a5 : Vec Ideal S2048x1024 .bf16) (b : Fin 4) : Vec Ideal S256x1024 .bf16 :=
  fun i => ∑ k : Fin 2048, (a2 (ix3 b (i 0 : Fin 256) k) * Ideal.rsqrt (Ideal.div (∑ c : Fin 2048, a2 (ix3 b (i 0 : Fin 256) c) * a2 (ix3 b (i 0 : Fin 256) c))
    (Ideal.ofBits .f32 1157627904#32) + Ideal.ofBits .f32 897988541#32) * a8 (ix1 k)) * a5 (ix2 k (i 1 : Fin 1024))

/-- The first result. -/
def resX (a0 : Vec Ideal S4x2048x2048 .bf16) (a1 : Vec Ideal S4x2048x2048 .f32) (a2 : Vec Ideal S4x256x2048 .f32) (a3 : Vec Ideal S2048x2048 .bf16)
    (a4 : Vec Ideal S2048x512 .bf16) (a5 : Vec Ideal S2048x1024 .bf16) (a6 : Vec Ideal S512x2048 .bf16) (a7 a8 : Vec Ideal S2048 .f32) :
    Vec Ideal S4x2048x2048 .f32 := fun i =>
  rowSum (fun k => a0 (ix3 (i 0 : Fin 4) (i 1 : Fin 2048) k)) (fun k => a1 (ix3 (i 0 : Fin 4) (i 1 : Fin 2048) k)) a3 (lift a7) a4 (kvAt a2 a8 a5 (i 0)) a6 (i 2)

/-- The second result: the rows of the first, normalised. -/
def resH (x : Vec Ideal S4x2048x2048 .f32) (a9 : Vec Ideal S2048 .f32) : Vec Ideal S4x2048x2048 .bf16 := fun i =>
  nrm (fun c => x (ix3 (i 0 : Fin 4) (i 1 : Fin 2048) c)) (lift a9) (i 2)

theorem sum2_ix (x0 : Vec Ideal S1x512x2048 .bf16) (x1 : Vec Ideal S1x512x2048 .f32) (x3 : Vec Ideal S2048x2048 .bf16) (x4 : Vec Ideal S2048x512 .bf16)
    (x6 : Vec Ideal S512x2048 .bf16) (x7 : Vec Ideal S1x2048 .f32) (kv : Vec Ideal S256x1024 .bf16) (i : Fin 1) (r : Fin 512) (c : Fin 2048) :
    sum2 x0 x1 x3 x4 x6 x7 kv (ix3 i r c) = rowSum (row x0 r) (row x1 r) x3 x7 x4 kv x6 c := rfl

theorem H_ix (G : Vec Ideal S1x512x2048 .f32) (l : Vec Ideal S1x2048 .f32) (i : Fin 1) (r : Fin 512) (c : Fin 2048) :
    H G l (ix3 i r c) = nrm (row G r) l c := rfl

theorem sum2_row (x0 : Vec Ideal S1x512x2048 .bf16) (x1 : Vec Ideal S1x512x2048 .f32) (x3 : Vec Ideal S2048x2048 .bf16) (x4 : Vec Ideal S2048x512 .bf16)
    (x6 : Vec Ideal S512x2048 .bf16) (x7 : Vec Ideal S1x2048 .f32) (kv : Vec Ideal S256x1024 .bf16) (r : Fin 512) :
    row (sum2 x0 x1 x3 x4 x6 x7 kv) r = rowSum (row x0 r) (row x1 r) x3 x7 x4 kv x6 := rfl

theorem resX_ix (a0 : Vec Ideal S4x2048x2048 .bf16) (a1 : Vec Ideal S4x2048x2048 .f32) (a2 : Vec Ideal S4x256x2048 .f32) (a3 : Vec Ideal S2048x2048 .bf16)
    (a4 : Vec Ideal S2048x512 .bf16) (a5 : Vec Ideal S2048x1024 .bf16) (a6 : Vec Ideal S512x2048 .bf16) (a7 a8 : Vec Ideal S2048 .f32)
    (b : Fin 4) (s c : Fin 2048) : resX a0 a1 a2 a3 a4 a5 a6 a7 a8 (ix3 b s c)
      = rowSum (fun k => a0 (ix3 b s k)) (fun k => a1 (ix3 b s k)) a3 (lift a7) a4 (kvAt a2 a8 a5 b) a6 c := rfl

theorem resH_ix (x : Vec Ideal S4x2048x2048 .f32) (a9 : Vec Ideal S2048 .f32) (b : Fin 4) (s c : Fin 2048) :
    resH x a9 (ix3 b s c) = nrm (fun k => x (ix3 b s k)) (lift a9) c := rfl

/-! ## The blocks a grid point reads -/

variable (m : (ℓ : Loc nD τ sig) → Buf (Elt Ideal) ℓ)

theorem lead (v : Vec Ideal S2048 .f32) (l : Fin 2048) : shapeCast S1x2048 v shapeCasts_S2048_S1x2048 (ix2 (0 : Fin 1) l) = v (ix1 l) := by
  pointwise []

/-- The three scaling rows, as the region finds them: the arguments with a leading axis of extent 1. -/
theorem V_main_v0 (c : Dev nD) (l : Fin 2048) : V m c main_v0 (ix2 (0 : Fin 1) l) = m ((c : Thread nD τ).loc main_arg7) (ix1 l) := by
  show StableHlo.after hostOps0 _ (Proc.devRef .tc main_v0) _ = _
  after_results
  show shapeCast S1x2048 (m (c, Proc.devRef .tc main_arg7)) shapeCasts_S2048_S1x2048 (ix2 0 l) = _
  exact lead _ l

theorem V_main_v1 (c : Dev nD) (l : Fin 2048) : V m c main_v1 (ix2 (0 : Fin 1) l) = m ((c : Thread nD τ).loc main_arg8) (ix1 l) := by
  show StableHlo.after hostOps0 _ (Proc.devRef .tc main_v1) _ = _
  after_results
  show shapeCast S1x2048 (m (c, Proc.devRef .tc main_arg8)) shapeCasts_S2048_S1x2048 (ix2 0 l) = _
  exact lead _ l

theorem V_main_v2 (c : Dev nD) (l : Fin 2048) : V m c main_v2 (ix2 (0 : Fin 1) l) = m ((c : Thread nD τ).loc main_arg9) (ix1 l) := by
  show StableHlo.after hostOps0 _ (Proc.devRef .tc main_v2) _ = _
  after_results
  show shapeCast S1x2048 (m (c, Proc.devRef .tc main_arg9)) shapeCasts_S2048_S1x2048 (ix2 0 l) = _
  exact lead _ l

/-- Where each array's block starts at grid point `t`. -/
theorem idx_rows : ∀ t : Fin cfg0.N, win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N, _)

theorem idx_whole : ∀ t : Fin cfg0.N, win0_3.index t (0 : Fin 2) = 0 ∧ win0_3.index t (1 : Fin 2) = 0
    ∧ win0_4.index t (0 : Fin 2) = 0 ∧ win0_4.index t (1 : Fin 2) = 0 ∧ win0_5.index t (0 : Fin 2) = 0 ∧ win0_5.index t (1 : Fin 2) = 0
    ∧ win0_6.index t (0 : Fin 2) = 0 ∧ win0_6.index t (1 : Fin 2) = 0 ∧ win0_7.index t (0 : Fin 2) = 0 ∧ win0_7.index t (1 : Fin 2) = 0
    ∧ win0_8.index t (0 : Fin 2) = 0 ∧ win0_8.index t (1 : Fin 2) = 0 ∧ win0_9.index t (0 : Fin 2) = 0 ∧ win0_9.index t (1 : Fin 2) = 0 :=
  (by decide +kernel : ∀ t : Fin grid0.N, _)

theorem idx_out : ∀ t : Fin cfg0.N, win0_10.index t (0 : Fin 3) = t.val / 4 ∧ win0_10.index t (1 : Fin 3) = t.val % 4 ∧ win0_10.index t (2 : Fin 3) = 0
    ∧ win0_11.index t (0 : Fin 3) = t.val / 4 ∧ win0_11.index t (1 : Fin 3) = t.val % 4 ∧ win0_11.index t (2 : Fin 3) = 0 :=
  (by decide +kernel : ∀ t : Fin grid0.N, _)

/-- The batch of a grid point. -/
def batch (n : ℕ) (hn : n < cfg0.N) : Fin 4 := ⟨n / 4, by have : cfg0.N = 16 := rfl; omega⟩

/-- The array row of row `r` of a grid point's block. -/
def arow (n : ℕ) (r : Fin 512) : Fin 2048 := ⟨512 * (n % 4) + r.val, by omega⟩

theorem block0 (c : Dev nD) (t : Fin cfg0.N) (r : Fin 512) (k : Fin 2048) :
    iblk m c 0 t (ix3 (0 : Fin 1) r k) = m ((c : Thread nD τ).loc main_arg0) (ix3 (batch t.val t.isLt) (arow t.val r) k) := by
  obtain ⟨e0, e1, e2, -⟩ := idx_rows t
  show V m c main_arg0 (((cfg0.win 0).blk t).view.emb (ix3 (0 : Fin 1) r k)) = _
  rw [V_main_arg0]
  refine congrArg _ (funext fun a => Fin.ext ?_)
  match a with
  | ⟨0, _⟩ => show win0_0.index t (0 : Fin 3) * 1 + 1 * 0 = t.val / 4; omega
  | ⟨1, _⟩ => show win0_0.index t (1 : Fin 3) * 512 + 1 * r.val = 512 * (t.val % 4) + r.val; omega
  | ⟨2, _⟩ => show win0_0.index t (2 : Fin 3) * 2048 + 1 * k.val = k.val; omega

theorem block1 (c : Dev nD) (t : Fin cfg0.N) (r : Fin 512) (k : Fin 2048) :
    iblk m c 1 t (ix3 (0 : Fin 1) r k) = m ((c : Thread nD τ).loc main_arg1) (ix3 (batch t.val t.isLt) (arow t.val r) k) := by
  obtain ⟨-, -, -, e0, e1, e2, -⟩ := idx_rows t
  show V m c main_arg1 (((cfg0.win 1).blk t).view.emb (ix3 (0 : Fin 1) r k)) = _
  rw [V_main_arg1]
  refine congrArg _ (funext fun a => Fin.ext ?_)
  match a with
  | ⟨0, _⟩ => show win0_1.index t (0 : Fin 3) * 1 + 1 * 0 = t.val / 4; omega
  | ⟨1, _⟩ => show win0_1.index t (1 : Fin 3) * 512 + 1 * r.val = 512 * (t.val % 4) + r.val; omega
  | ⟨2, _⟩ => show win0_1.index t (2 : Fin 3) * 2048 + 1 * k.val = k.val; omega

theorem block2 (c : Dev nD) (t : Fin cfg0.N) (r : Fin 256) (k : Fin 2048) :
    iblk m c 2 t (ix3 (0 : Fin 1) r k) = m ((c : Thread nD τ).loc main_arg2) (ix3 (batch t.val t.isLt) r k) := by
  obtain ⟨-, -, -, -, -, -, e0, e1, e2⟩ := idx_rows t
  show V m c main_arg2 (((cfg0.win 2).blk t).view.emb (ix3 (0 : Fin 1) r k)) = _
  rw [V_main_arg2]
  refine congrArg _ (funext fun a => Fin.ext ?_)
  match a with
  | ⟨0, _⟩ => show win0_2.index t (0 : Fin 3) * 1 + 1 * 0 = t.val / 4; omega
  | ⟨1, _⟩ => show win0_2.index t (1 : Fin 3) * 256 + 1 * r.val = r.val; omega
  | ⟨2, _⟩ => show win0_2.index t (2 : Fin 3) * 2048 + 1 * k.val = k.val; omega

/-- The weights are whole at every grid point. -/
theorem block3 (c : Dev nD) (t : Fin cfg0.N) : iblk m c 3 t = m ((c : Thread nD τ).loc main_arg3) := by
  obtain ⟨e0, e1, -⟩ := idx_whole t
  funext j
  show V m c main_arg3 (((cfg0.win 3).blk t).view.emb j) = _
  rw [V_main_arg3]
  refine congrArg _ (funext fun a => Fin.ext ?_)
  match a with
  | ⟨0, _⟩ => show win0_3.index t (0 : Fin 2) * 2048 + 1 * (j 0).val = (j 0).val; omega
  | ⟨1, _⟩ => show win0_3.index t (1 : Fin 2) * 2048 + 1 * (j 1).val = (j 1).val; omega

theorem block4 (c : Dev nD) (t : Fin cfg0.N) : iblk m c 4 t = m ((c : Thread nD τ).loc main_arg4) := by
  obtain ⟨-, -, e0, e1, -⟩ := idx_whole t
  funext j
  show V m c main_arg4 (((cfg0.win 4).blk t).view.emb j) = _
  rw [V_main_arg4]
  refine congrArg _ (funext fun a => Fin.ext ?_)
  match a with
  | ⟨0, _⟩ => show win0_4.index t (0 : Fin 2) * 2048 + 1 * (j 0).val = (j 0).val; omega
  | ⟨1, _⟩ => show win0_4.index t (1 : Fin 2) * 512 + 1 * (j 1).val = (j 1).val; omega

theorem block5 (c : Dev nD) (t : Fin cfg0.N) : iblk m c 5 t = m ((c : Thread nD τ).loc main_arg5) := by
  obtain ⟨-, -, -, -, e0, e1, -⟩ := idx_whole t
  funext j
  show V m c main_arg5 (((cfg0.win 5).blk t).view.emb j) = _
  rw [V_main_arg5]
  refine congrArg _ (funext fun a => Fin.ext ?_)
  match a with
  | ⟨0, _⟩ => show win0_5.index t (0 : Fin 2) * 2048 + 1 * (j 0).val = (j 0).val; omega
  | ⟨1, _⟩ => show win0_5.index t (1 : Fin 2) * 1024 + 1 * (j 1).val = (j 1).val; omega

theorem block6 (c : Dev nD) (t : Fin cfg0.N) : iblk m c 6 t = m ((c : Thread nD τ).loc main_arg6) := by
  obtain ⟨-, -, -, -, -, -, e0, e1, -⟩ := idx_whole t
  funext j
  show V m c main_arg6 (((cfg0.win 6).blk t).view.emb j) = _
  rw [V_main_arg6]
  refine congrArg _ (funext fun a => Fin.ext ?_)
  match a with
  | ⟨0, _⟩ => show win0_6.index t (0 : Fin 2) * 512 + 1 * (j 0).val = (j 0).val; omega
  | ⟨1, _⟩ => show win0_6.index t (1 : Fin 2) * 2048 + 1 * (j 1).val = (j 1).val; omega

/-- The scaling rows are whole at every grid point. -/
theorem block7 (c : Dev nD) (t : Fin cfg0.N) : iblk m c 7 t = lift (m ((c : Thread nD τ).loc main_arg7)) := by
  obtain ⟨-, -, -, -, -, -, -, -, e0, e1, -⟩ := idx_whole t
  funext j
  idx_vars j
  obtain rfl : j0 = 0 := Subsingleton.elim _ _
  refine Eq.trans ?_ (V_main_v0 m c j1)
  show V m c main_v0 (((cfg0.win 7).blk t).view.emb (ix2 (0 : Fin 1) j1)) = _
  refine congrArg _ (funext fun a => Fin.ext ?_)
  match a with
  | ⟨0, _⟩ => show win0_7.index t (0 : Fin 2) * 1 + 1 * 0 = 0; omega
  | ⟨1, _⟩ => show win0_7.index t (1 : Fin 2) * 2048 + 1 * j1.val = j1.val; omega

theorem block8 (c : Dev nD) (t : Fin cfg0.N) : iblk m c 8 t = lift (m ((c : Thread nD τ).loc main_arg8)) := by
  obtain ⟨-, -, -, -, -, -, -, -, -, -, e0, e1, -⟩ := idx_whole t
  funext j
  idx_vars j
  obtain rfl : j0 = 0 := Subsingleton.elim _ _
  refine Eq.trans ?_ (V_main_v1 m c j1)
  show V m c main_v1 (((cfg0.win 8).blk t).view.emb (ix2 (0 : Fin 1) j1)) = _
  refine congrArg _ (funext fun a => Fin.ext ?_)
  match a with
  | ⟨0, _⟩ => show win0_8.index t (0 : Fin 2) * 1 + 1 * 0 = 0; omega
  | ⟨1, _⟩ => show win0_8.index t (1 : Fin 2) * 2048 + 1 * j1.val = j1.val; omega

theorem block9 (c : Dev nD) (t : Fin cfg0.N) : iblk m c 9 t = lift (m ((c : Thread nD τ).loc main_arg9)) := by
  obtain ⟨-, -, -, -, -, -, -, -, -, -, -, -, e0, e1⟩ := idx_whole t
  funext j
  idx_vars j
  obtain rfl : j0 = 0 := Subsingleton.elim _ _
  refine Eq.trans ?_ (V_main_v2 m c j1)
  show V m c main_v2 (((cfg0.win 9).blk t).view.emb (ix2 (0 : Fin 1) j1)) = _
  refine congrArg _ (funext fun a => Fin.ext ?_)
  match a with
  | ⟨0, _⟩ => show win0_9.index t (0 : Fin 2) * 1 + 1 * 0 = 0; omega
  | ⟨1, _⟩ => show win0_9.index t (1 : Fin 2) * 2048 + 1 * j1.val = j1.val; omega

/-! ## The keys and values a batch's points read -/

/-- The keys and values of core `c`'s batch `b`. -/
abbrev kvOf (c : Dev nD) (b : Fin 4) : Vec Ideal S256x1024 .bf16 :=
  kvAt (m ((c : Thread nD τ).loc main_arg2)) (m ((c : Thread nD τ).loc main_arg8)) (m ((c : Thread nD τ).loc main_arg5)) b

theorem kv_blk (c : Dev nD) (t : Fin cfg0.N) :
    k0_pay5 (F := Ideal) (iblk m c 2 t) (iblk m c 8 t) (iblk m c 5 t) = kvOf m c (batch t.val t.isLt) := by
  rw [block8, block5]
  funext j
  idx_vars j
  rw [kv_ix]
  simp only [block2 m c t]
  rfl

/-- What the point before left, at every point: the keys and values of its batch. -/
theorem carried (c : Dev nD) : ∀ (n : ℕ) (hn : n < cfg0.N), (outsAt0 m c n hn).2.2 = kvOf m c (batch n hn) := by
  intro n
  induction n with
  | zero =>
    intro hn
    rw [show outsAt0 m c 0 hn = _ from outsAt0_A m c ⟨0, hn⟩ (Nat.zero_mod 4)]
    dsimp only
    exact (left_A ..).trans (kv_blk m c ⟨0, hn⟩)
  | succ k ih =>
    intro hn
    by_cases h0 : (k + 1) % 4 = 0
    · rw [show outsAt0 m c (k + 1) hn = _ from outsAt0_A m c ⟨k + 1, hn⟩ h0]
      dsimp only
      exact (left_A ..).trans (kv_blk m c ⟨k + 1, hn⟩)
    · have hk : k < cfg0.N := Nat.lt_of_succ_lt hn
      have e : batch k hk = batch (k + 1) hn := Fin.ext (by show k / 4 = (k + 1) / 4; omega)
      rw [show outsAt0 m c (k + 1) hn = _ from outsAt0_B m c ⟨k + 1, hn⟩ h0]
      dsimp only
      exact (ih hk).trans (congrArg (kvOf m c) e)

/-- The block of the second residual at point `t`. -/
abbrev blockX (c : Dev nD) (t : Fin cfg0.N) : Vec Ideal S1x512x2048 .f32 :=
  sum2 (iblk m c 0 t) (iblk m c 1 t) (iblk m c 3 t) (iblk m c 4 t) (iblk m c 6 t) (iblk m c 7 t) (kvOf m c (batch t.val t.isLt))

theorem out10_eq (c : Dev nD) (t : Fin cfg0.N) : (outsAt0 m c t.val t.isLt).1 = blockX m c t := by
  by_cases h0 : t.val % 4 = 0
  · rw [outsAt0_A m c t h0]
    dsimp only
    exact (out10_A ..).trans (by rw [kv_blk])
  · have i0 := carried m c (t.val - 1) (Nat.lt_of_le_of_lt (Nat.sub_le _ _) t.isLt)
    have e : batch (t.val - 1) (Nat.lt_of_le_of_lt (Nat.sub_le _ _) t.isLt) = batch t.val t.isLt := Fin.ext (by show (t.val - 1) / 4 = t.val / 4; omega)
    rw [outsAt0_B m c t h0]
    dsimp only
    refine (out10_B ..).trans ?_
    rw [i0, e]

theorem out11_eq (c : Dev nD) (t : Fin cfg0.N) : (outsAt0 m c t.val t.isLt).2.1 = H (blockX m c t) (iblk m c 9 t) := by
  by_cases h0 : t.val % 4 = 0
  · rw [outsAt0_A m c t h0]
    dsimp only
    exact (out11_A ..).trans (by rw [kv_blk])
  · have i0 := carried m c (t.val - 1) (Nat.lt_of_le_of_lt (Nat.sub_le _ _) t.isLt)
    have e : batch (t.val - 1) (Nat.lt_of_le_of_lt (Nat.sub_le _ _) t.isLt) = batch t.val t.isLt := Fin.ext (by show (t.val - 1) / 4 = t.val / 4; omega)
    rw [outsAt0_B m c t h0]
    dsimp only
    refine (out11_B ..).trans ?_
    rw [i0, e]

/-! ## The arrays the call leaves -/

abbrev resXOf (c : Dev nD) : Vec Ideal S4x2048x2048 .f32 :=
  resX (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

abbrev resHOf (c : Dev nD) : Vec Ideal S4x2048x2048 .bf16 := resH (resXOf m c) (m ((c : Thread nD τ).loc main_arg9))

/-- A row of a point's block of the second residual is its row of the first result. -/
theorem row_blockX (c : Dev nD) (t : Fin cfg0.N) (r : Fin 512) :
    row (blockX m c t) r = fun k => resXOf m c (ix3 (batch t.val t.isLt) (arow t.val r) k) := by
  have e0 : row (iblk m c 0 t) r = fun k => m ((c : Thread nD τ).loc main_arg0) (ix3 (batch t.val t.isLt) (arow t.val r) k) := funext fun k => block0 m c t r k
  have e1 : row (iblk m c 1 t) r = fun k => m ((c : Thread nD τ).loc main_arg1) (ix3 (batch t.val t.isLt) (arow t.val r) k) := funext fun k => block1 m c t r k
  rw [sum2_row, e0, e1, block3, block4, block6, block7]
  rfl

theorem emb10 (t : Fin cfg0.N) (i : Fin 1) (r : Fin 512) (l : Fin 2048) :
    ((cfg0.win 10).blk t).view.emb (ix3 i r l) = ix3 (batch t.val t.isLt) (arow t.val r) l := by
  obtain ⟨e0, e1, e2, -⟩ := idx_out t
  funext a; apply Fin.ext
  match a with
  | ⟨0, _⟩ => show win0_10.index t (0 : Fin 3) * 1 + 1 * i.val = t.val / 4; omega
  | ⟨1, _⟩ => show win0_10.index t (1 : Fin 3) * 512 + 1 * r.val = 512 * (t.val % 4) + r.val; omega
  | ⟨2, _⟩ => show win0_10.index t (2 : Fin 3) * 2048 + 1 * l.val = l.val; omega

theorem emb11 (t : Fin cfg0.N) (i : Fin 1) (r : Fin 512) (l : Fin 2048) :
    ((cfg0.win 11).blk t).view.emb (ix3 i r l) = ix3 (batch t.val t.isLt) (arow t.val r) l := by
  obtain ⟨-, -, -, e0, e1, e2⟩ := idx_out t
  funext a; apply Fin.ext
  match a with
  | ⟨0, _⟩ => show win0_11.index t (0 : Fin 3) * 1 + 1 * i.val = t.val / 4; omega
  | ⟨1, _⟩ => show win0_11.index t (1 : Fin 3) * 512 + 1 * r.val = 512 * (t.val % 4) + r.val; omega
  | ⟨2, _⟩ => show win0_11.index t (2 : Fin 3) * 2048 + 1 * l.val = l.val; omega

/-- What a grid point writes back is its block of the results. -/
theorem wrote10 (c : Dev nD) (t : Fin cfg0.N) : (dats m 0 c).flushed 10 t = ((cfg0.win 10).blk t).view.read (Elt Ideal) (resXOf m c) := by
  rw [flushed10, out10_eq]
  funext j
  show blockX m c t j = resXOf m c (((cfg0.win 10).blk t).view.emb j)
  idx_vars j
  rw [emb10]
  exact congrFun (row_blockX m c t j1) j2

theorem wrote11 (c : Dev nD) (t : Fin cfg0.N) : (dats m 0 c).flushed 11 t = ((cfg0.win 11).blk t).view.read (Elt Ideal) (resHOf m c) := by
  rw [flushed11, out11_eq]
  funext j
  show H (blockX m c t) (iblk m c 9 t) j = resHOf m c (((cfg0.win 11).blk t).view.emb j)
  idx_vars j
  rw [emb11, H_ix, row_blockX, block9]
  rfl

theorem covered10 (i : S4x2048x2048.Idx) : ∃ t : Fin cfg0.N, (cfg0.win 10).flush t = true ∧ i ∈ ((cfg0.win 10).blk t).view.set := by
  idx_vars i
  have hN : cfg0.N = 16 := rfl
  refine ⟨⟨i0.val * 4 + i1.val / 512, by omega⟩, flush0_10 _, ?_⟩
  have h := View.emb_mem_set ((cfg0.win 10).blk (⟨i0.val * 4 + i1.val / 512, by omega⟩ : Fin cfg0.N)).view (ix3 (0 : Fin 1) (⟨i1.val % 512, by omega⟩ : Fin 512) i2)
  rw [emb10] at h
  have e0 : batch (i0.val * 4 + i1.val / 512) (by omega) = i0 := Fin.ext (by show (i0.val * 4 + i1.val / 512) / 4 = i0.val; omega)
  have e1 : arow (i0.val * 4 + i1.val / 512) ⟨i1.val % 512, by omega⟩ = i1 := Fin.ext (by show 512 * ((i0.val * 4 + i1.val / 512) % 4) + i1.val % 512 = i1.val; omega)
  rwa [e0, e1] at h

theorem covered11 (i : S4x2048x2048.Idx) : ∃ t : Fin cfg0.N, (cfg0.win 11).flush t = true ∧ i ∈ ((cfg0.win 11).blk t).view.set := by
  idx_vars i
  have hN : cfg0.N = 16 := rfl
  refine ⟨⟨i0.val * 4 + i1.val / 512, by omega⟩, flush0_11 _, ?_⟩
  have h := View.emb_mem_set ((cfg0.win 11).blk (⟨i0.val * 4 + i1.val / 512, by omega⟩ : Fin cfg0.N)).view (ix3 (0 : Fin 1) (⟨i1.val % 512, by omega⟩ : Fin 512) i2)
  rw [emb11] at h
  have e0 : batch (i0.val * 4 + i1.val / 512) (by omega) = i0 := Fin.ext (by show (i0.val * 4 + i1.val / 512) / 4 = i0.val; omega)
  have e1 : arow (i0.val * 4 + i1.val / 512) ⟨i1.val % 512, by omega⟩ = i1 := Fin.ext (by show 512 * ((i0.val * 4 + i1.val / 512) % 4) + i1.val % 512 = i1.val; omega)
  rwa [e0, e1] at h

theorem final10 (c : Dev nD) : (dats m 0 c).arrAt 10 cfg0.N = resXOf m c :=
  (dats m 0 c).arrAt_eq_of_cover 10 (resXOf m c) (fun t _ => wrote10 m c t) covered10

theorem final11 (c : Dev nD) : (dats m 0 c).arrAt 11 cfg0.N = resHOf m c :=
  (dats m 0 c).arrAt_eq_of_cover 11 (resHOf m c) (fun t _ => wrote11 m c t) covered11

end Cert.MidMix
-- ==== Proof.MidRef.lean ====
/- THE MIDDLE CALL'S REFERENCE, LINE BY LINE: what each of its lines holds at an index. -/
module

public import proofs.«01_k».proof.Proof.Gen.MidReferenceIdeal.Run
public import proofs.«01_k».proof.Proof.Gen.MidReferenceIdeal.Read
public import Idealize.ShloMosaic.Lib.Pointwise

@[expose] public section

noncomputable section

namespace Cert.MidMix.Ref

open Cert.MidReferenceIdeal Cert.MidReferenceIdeal.Read Idealize.ShloMosaic Idealize.ShloMosaic.TcCoe Idealize.SL.Sem

variable (a0 : Vec Ideal S4x2048x2048 .bf16) (a1 : Vec Ideal S4x2048x2048 .f32) (a2 : Vec Ideal S4x256x2048 .f32) (a3 : Vec Ideal S2048x2048 .bf16)
  (a4 : Vec Ideal S2048x512 .bf16) (a5 : Vec Ideal S2048x1024 .bf16) (a6 : Vec Ideal S512x2048 .bf16) (a7 a8 a9 : Vec Ideal S2048 .f32)

/-- A row's norm, with its gain. -/
def norm (y : Fin 2048 → EReal) (l : Vec Ideal S2048 .f32) (c : Fin 2048) : EReal :=
  y c * Ideal.rsqrt (Ideal.div (∑ k : Fin 2048, y k * y k) (Ideal.ofBits .f32 1157627904#32) + Ideal.ofBits .f32 897988541#32) * l (ix1 c)

theorem sum1 (b : Fin 4) (s c : Fin 2048) :
    val_main_v3 (F := Ideal) a0 a1 a3 (ix3 b s c) = a1 (ix3 b s c) + ∑ k : Fin 2048, a0 (ix3 b s k) * a3 (ix2 k c) := by
  pointwise [val_main_v0, val_main_v1, val_main_v2, val_main_v3]

theorem norm1 (b : Fin 4) (s c : Fin 2048) :
    val_main_v16 (F := Ideal) a0 a1 a3 a7 (ix3 b s c) = norm (fun k => val_main_v3 (F := Ideal) a0 a1 a3 (ix3 b s k)) a7 c := by
  pointwise [val_main_v4, val_main_v5, val_main_v6, val_main_v7, val_main_v8, val_main_v9, val_main_v10, val_main_v11, val_main_v12, val_main_v13, val_main_v14, val_main_v15, val_main_v16, val_main_cst, val_main_cst_0, val_main_cst_1, norm]

theorem queries (b : Fin 4) (s : Fin 2048) (l : Fin 512) :
    val_main_v18 (F := Ideal) a0 a1 a3 a4 a7 (ix3 b s l) = ∑ k : Fin 2048, val_main_v16 (F := Ideal) a0 a1 a3 a7 (ix3 b s k) * a4 (ix2 k l) := by
  pointwise [val_main_v17, val_main_v18]

theorem norm2 (b : Fin 4) (m : Fin 256) (c : Fin 2048) :
    val_main_v32 (F := Ideal) a2 a8 (ix3 b m c) = norm (fun k => a2 (ix3 b m k)) a8 c := by
  pointwise [val_main_v20, val_main_v21, val_main_v22, val_main_v23, val_main_v24, val_main_v25, val_main_v26, val_main_v27, val_main_v28, val_main_v29, val_main_v30, val_main_v31, val_main_v32, val_main_cst_2, val_main_cst_3, val_main_cst_4, norm]

theorem keys (b : Fin 4) (m : Fin 256) (n : Fin 1024) :
    val_main_v34 (F := Ideal) a2 a5 a8 (ix3 b m n) = ∑ k : Fin 2048, val_main_v32 (F := Ideal) a2 a8 (ix3 b m k) * a5 (ix2 k n) := by
  pointwise [val_main_v33, val_main_v34]

/-- The queries, head by head. -/
theorem queries_head (b : Fin 4) (s : Fin 2048) (h : Fin 4) (d : Fin 128) :
    val_main_v19 (F := Ideal) a0 a1 a3 a4 a7 (ix4 b s h d) = val_main_v18 (F := Ideal) a0 a1 a3 a4 a7 (ix3 b s (⟨h.val * 128 + d.val, by omega⟩ : Fin 512)) := by
  rw [val_main_v19_apply]
  refine congrArg _ (funext fun a => Fin.ext ?_)
  match a with
  | ⟨0, _⟩ => show (((b.val * 2048 + s.val) * 4 + h.val) * 128 + d.val) / 1048576 = b.val; omega
  | ⟨1, _⟩ => show (((b.val * 2048 + s.val) * 4 + h.val) * 128 + d.val) / 512 % 2048 = s.val; omega
  | ⟨2, _⟩ => show (((b.val * 2048 + s.val) * 4 + h.val) * 128 + d.val) % 512 = h.val * 128 + d.val; omega

theorem split (b : Fin 4) (m : Fin 256) (z : Fin 2) (h : Fin 4) (d : Fin 128) :
    val_main_v35 (F := Ideal) a2 a5 a8 (ix5 b m z h d) = val_main_v34 (F := Ideal) a2 a5 a8 (ix3 b m (⟨z.val * 512 + (h.val * 128 + d.val), by omega⟩ : Fin 1024)) := by
  rw [val_main_v35_apply]
  refine congrArg _ (funext fun a => Fin.ext ?_)
  match a with
  | ⟨0, _⟩ => show ((((b.val * 256 + m.val) * 2 + z.val) * 4 + h.val) * 128 + d.val) / 262144 = b.val; omega
  | ⟨1, _⟩ => show ((((b.val * 256 + m.val) * 2 + z.val) * 4 + h.val) * 128 + d.val) / 1024 % 256 = m.val; omega
  | ⟨2, _⟩ => show ((((b.val * 256 + m.val) * 2 + z.val) * 4 + h.val) * 128 + d.val) % 1024 = z.val * 512 + (h.val * 128 + d.val); omega

/-- The keys, head by head. -/
theorem keys_head (b : Fin 4) (m : Fin 256) (h : Fin 4) (d : Fin 128) :
    val_main_v37 (F := Ideal) a2 a5 a8 (ix4 b m h d) = val_main_v34 (F := Ideal) a2 a5 a8 (ix3 b m (⟨h.val * 128 + d.val, by omega⟩ : Fin 1024)) := by
  rw [val_main_v37_apply, val_main_v36_apply]
  refine Eq.trans (congrArg _ (funext fun a => Fin.ext ?_)) ((split a2 a5 a8 b m 0 h d).trans ?_)
  · match a with
    | ⟨0, _⟩ => show (((b.val * 256 + m.val) * 4 + h.val) * 128 + d.val) / 131072 = b.val; omega
    | ⟨1, _⟩ => show (((b.val * 256 + m.val) * 4 + h.val) * 128 + d.val) / 512 % 256 = m.val; omega
    | ⟨2, _⟩ => rfl
    | ⟨3, _⟩ => show (((b.val * 256 + m.val) * 4 + h.val) * 128 + d.val) / 128 % 4 = h.val; omega
    | ⟨4, _⟩ => show (((b.val * 256 + m.val) * 4 + h.val) * 128 + d.val) % 128 = d.val; omega
  · exact congrArg (fun n => val_main_v34 (F := Ideal) a2 a5 a8 (ix3 b m n)) (Fin.ext (by show 0 * 512 + (h.val * 128 + d.val) = h.val * 128 + d.val; omega))

/-- The values, head by head. -/
theorem values_head (b : Fin 4) (m : Fin 256) (h : Fin 4) (d : Fin 128) :
    val_main_v53 (F := Ideal) a2 a5 a8 (ix4 b m h d) = val_main_v34 (F := Ideal) a2 a5 a8 (ix3 b m (⟨512 + (h.val * 128 + d.val), by omega⟩ : Fin 1024)) := by
  rw [val_main_v53_apply, val_main_v52_apply]
  refine Eq.trans (congrArg _ (funext fun a => Fin.ext ?_)) ((split a2 a5 a8 b m 1 h d).trans ?_)
  · match a with
    | ⟨0, _⟩ => show (((b.val * 256 + m.val) * 4 + h.val) * 128 + d.val) / 131072 = b.val; omega
    | ⟨1, _⟩ => show (((b.val * 256 + m.val) * 4 + h.val) * 128 + d.val) / 512 % 256 = m.val; omega
    | ⟨2, _⟩ => rfl
    | ⟨3, _⟩ => show (((b.val * 256 + m.val) * 4 + h.val) * 128 + d.val) / 128 % 4 = h.val; omega
    | ⟨4, _⟩ => show (((b.val * 256 + m.val) * 4 + h.val) * 128 + d.val) % 128 = d.val; omega
  · exact congrArg (fun n => val_main_v34 (F := Ideal) a2 a5 a8 (ix3 b m n)) (Fin.ext (by show 1 * 512 + (h.val * 128 + d.val) = 512 + (h.val * 128 + d.val); omega))

theorem scores (b h : Fin 4) (s : Fin 2048) (m : Fin 256) :
    val_main_v40 (F := Ideal) a0 a1 a2 a3 a4 a5 a7 a8 (ix4 b h s m)
      = (∑ d : Fin 128, val_main_v18 (F := Ideal) a0 a1 a3 a4 a7 (ix3 b s (⟨h.val * 128 + d.val, by omega⟩ : Fin 512))
        * val_main_v34 (F := Ideal) a2 a5 a8 (ix3 b m (⟨h.val * 128 + d.val, by omega⟩ : Fin 1024))) * Ideal.ofBits .f32 1035273459#32 := by
  rw [val_main_v40_apply, val_main_v38_apply, val_main_v39_apply, val_main_cst_5_apply]
  refine congrArg (· * Ideal.ofBits .f32 1035273459#32) (Finset.sum_congr rfl fun d _ => ?_)
  exact congrArg₂ (· * ·) ((congrArg (val_main_v19 (F := Ideal) a0 a1 a3 a4 a7) (funext fun a => by match a with | ⟨0, _⟩ => rfl | ⟨1, _⟩ => rfl | ⟨2, _⟩ => rfl | ⟨3, _⟩ => rfl)).trans
    (queries_head a0 a1 a3 a4 a7 b s h d))
    ((congrArg (val_main_v37 (F := Ideal) a2 a5 a8) (funext fun a => by match a with | ⟨0, _⟩ => rfl | ⟨1, _⟩ => rfl | ⟨2, _⟩ => rfl | ⟨3, _⟩ => rfl)).trans (keys_head a2 a5 a8 b m h d))

/-- The largest of a list of scores, as the reference takes it. -/
def top (f : Fin 256 → EReal) : EReal := max (Ideal.ofBits .f32 4286578688#32) (Finset.univ.fold max (Ideal.ofBits .f32 4286578688#32) f)

theorem fold_row (y : FVec Ideal S4x4x2048x256 .f32) (c : FVec Ideal S_ .f32) (b h : Fin 4) (s : Fin 2048) :
    Host.reduce FloatOps.maximumf y c Gen.reducesTo_S4x4x2048x256_S4x4x2048_d3 Gen.h_S_ (ix3 b h s)
      = Finset.univ.fold max (c (Shape.Idx.first Gen.h_S_)) fun k : Fin 256 => y (ix4 b h s k) := by
  simp only [pointwise]

theorem largest (b h : Fin 4) (s : Fin 2048) :
    val_main_v43 (F := Ideal) a0 a1 a2 a3 a4 a5 a7 a8 (ix3 b h s) = top (fun m => val_main_v40 (F := Ideal) a0 a1 a2 a3 a4 a5 a7 a8 (ix4 b h s m)) := by
  rw [val_main_v43_apply, val_main_v42_apply, val_main_cst_7_apply]
  unfold val_main_v41
  generalize val_main_v40 (F := Ideal) a0 a1 a2 a3 a4 a5 a7 a8 = y
  rw [fold_row]
  rfl

theorem power (b h : Fin 4) (s : Fin 2048) (m : Fin 256) :
    val_main_v47 (F := Ideal) a0 a1 a2 a3 a4 a5 a7 a8 (ix4 b h s m)
      = Ideal.exp (val_main_v40 (F := Ideal) a0 a1 a2 a3 a4 a5 a7 a8 (ix4 b h s m) - val_main_v43 (F := Ideal) a0 a1 a2 a3 a4 a5 a7 a8 (ix3 b h s)) := by
  pointwise [val_main_v47, val_main_v46, val_main_v45, val_main_v44]

theorem weights (b h : Fin 4) (s : Fin 2048) (m : Fin 256) :
    val_main_v51 (F := Ideal) a0 a1 a2 a3 a4 a5 a7 a8 (ix4 b h s m)
      = Ideal.div (val_main_v47 (F := Ideal) a0 a1 a2 a3 a4 a5 a7 a8 (ix4 b h s m)) (∑ n : Fin 256, val_main_v47 (F := Ideal) a0 a1 a2 a3 a4 a5 a7 a8 (ix4 b h s n)) := by
  pointwise [val_main_v51, val_main_v50, val_main_v49, val_main_v48, val_main_cst_8]

theorem att (b : Fin 4) (s : Fin 2048) (l : Fin 512) :
    val_main_v56 (F := Ideal) a0 a1 a2 a3 a4 a5 a7 a8 (ix3 b s l)
      = ∑ m : Fin 256, val_main_v34 (F := Ideal) a2 a5 a8 (ix3 b m (⟨512 + l.val, by omega⟩ : Fin 1024))
        * val_main_v51 (F := Ideal) a0 a1 a2 a3 a4 a5 a7 a8 (ix4 b (⟨l.val / 128, by omega⟩ : Fin 4) s m) := by
  rw [val_main_v56_apply, val_main_v55_apply, val_main_v54_apply]
  refine Finset.sum_congr rfl fun m _ => ?_
  refine congrArg₂ (· * ·) ((congrArg (val_main_v53 (F := Ideal) a2 a5 a8) (funext fun a => Fin.ext ?_)).trans
    ((values_head a2 a5 a8 b m (⟨l.val / 128, by omega⟩ : Fin 4) (⟨l.val % 128, by omega⟩ : Fin 128)).trans
      (congrArg (fun n => val_main_v34 (F := Ideal) a2 a5 a8 (ix3 b m n)) (Fin.ext (by show 512 + (l.val / 128 * 128 + l.val % 128) = 512 + l.val; omega)))))
    (congrArg (val_main_v51 (F := Ideal) a0 a1 a2 a3 a4 a5 a7 a8) (funext fun a => Fin.ext ?_))
  · match a with
    | ⟨0, _⟩ => show ((b.val * 2048 + s.val) * 512 + l.val) / 1048576 = b.val; omega
    | ⟨1, _⟩ => rfl
    | ⟨2, _⟩ => show ((b.val * 2048 + s.val) * 512 + l.val) / 128 % 4 = l.val / 128; omega
    | ⟨3, _⟩ => show ((b.val * 2048 + s.val) * 512 + l.val) % 128 = l.val % 128; omega
  · match a with
    | ⟨0, _⟩ => show ((b.val * 2048 + s.val) * 512 + l.val) / 1048576 = b.val; omega
    | ⟨1, _⟩ => show ((b.val * 2048 + s.val) * 512 + l.val) / 128 % 4 = l.val / 128; omega
    | ⟨2, _⟩ => show ((b.val * 2048 + s.val) * 512 + l.val) / 512 % 2048 = s.val; omega
    | ⟨3, _⟩ => rfl

theorem sum2 (b : Fin 4) (s c : Fin 2048) :
    val_main_v59 (F := Ideal) a0 a1 a2 a3 a4 a5 a6 a7 a8 (ix3 b s c)
      = val_main_v3 (F := Ideal) a0 a1 a3 (ix3 b s c) + ∑ k : Fin 512, val_main_v56 (F := Ideal) a0 a1 a2 a3 a4 a5 a7 a8 (ix3 b s k) * a6 (ix2 k c) := by
  pointwise [val_main_v57, val_main_v58, val_main_v59]

theorem norm3 (b : Fin 4) (s c : Fin 2048) :
    val_main_v73 (F := Ideal) a0 a1 a2 a3 a4 a5 a6 a7 a8 a9 (ix3 b s c)
      = norm (fun k => val_main_v59 (F := Ideal) a0 a1 a2 a3 a4 a5 a6 a7 a8 (ix3 b s k)) a9 c := by
  pointwise [val_main_v60, val_main_v61, val_main_v62, val_main_v63, val_main_v64, val_main_v65, val_main_v66, val_main_v67, val_main_v68, val_main_v69, val_main_v70, val_main_v71, val_main_v72, val_main_v73, val_main_cst_9, val_main_cst_10, val_main_cst_11, norm]

end Cert.MidMix.Ref

end
-- ==== Proof.MidEq.lean ====
/- THE MIDDLE CALL'S REFERENCE: where every score is a real number, the reference's two results are the kernel's. The reference
   divides each power by the row's denominator, the kernel multiplies it by the denominator's reciprocal: the two agree, the
   denominator being a positive real number. -/
module

public import proofs.«01_k».proof.Proof.Mid
public import proofs.«01_k».proof.Proof.MidRef
public import proofs.«01_k».proof.Proof.Gen.Pre_finite_scores

@[expose] public section

noncomputable section

namespace Cert.MidMix

open Cert.MidKernelIdeal Cert.MidReferenceIdeal.Read Idealize.ShloMosaic

/-! ## The softmax weights of a row of real scores -/

theorem neg_inf : Ideal.ofBits .f32 4286578688#32 = ⊥ := by simp [Ideal.ofBits, Ideal.ieee]

theorem div_mean (x : EReal) : Ideal.div x (Ideal.ofBits .f32 1157627904#32) = x * Ideal.ofBits .f32 973078528#32 := by
  rw [show Ideal.ofBits .f32 1157627904#32 = ((2048 : ℝ) : EReal) by simp [Ideal.ofBits, Ideal.ieee, -EReal.coe_mul]; norm_num,
    Ideal.div_coe (by norm_num),
    show Ideal.ofBits .f32 973078528#32 = ((1 / 2048 : ℝ) : EReal) by simp [Ideal.ofBits, Ideal.ieee, -EReal.coe_mul]; norm_num]

/-- The largest of real scores is a real number. -/
theorem fold_real (s : Fin 256 → EReal) (h : ∀ m, ∃ r : ℝ, s m = (r : EReal)) :
    ∃ M : ℝ, Finset.univ.fold max (Ideal.ofBits .f32 4286578688#32) s = (M : EReal) := by
  have hlt : Finset.univ.fold max (Ideal.ofBits .f32 4286578688#32) s < ⊤ := by
    rw [Finset.fold_max_lt]
    refine ⟨by rw [neg_inf]; exact bot_lt_top, fun m _ => ?_⟩
    obtain ⟨r, hr⟩ := h m
    rw [hr]; exact EReal.coe_lt_top r
  have hgt : ⊥ < Finset.univ.fold max (Ideal.ofBits .f32 4286578688#32) s := by
    obtain ⟨r, hr⟩ := h 0
    refine lt_of_lt_of_le (EReal.bot_lt_coe r) ((Finset.le_fold_max _).2 (Or.inr ⟨0, Finset.mem_univ _, ?_⟩))
    rw [hr]
  exact ⟨_, (EReal.coe_toReal hlt.ne hgt.ne').symm⟩

theorem top_eq (s : Fin 256 → EReal) : Ref.top s = Finset.univ.fold max (Ideal.ofBits .f32 4286578688#32) s :=
  max_eq_right (by rw [neg_inf]; exact bot_le)

/-- A sum of powers of real numbers is a nonnegative real number, positive where there is a term. -/
theorem sum_real (f : Fin 256 → ℝ) : (∑ n : Fin 256, ((Real.exp (f n) : ℝ) : EReal)) = ((∑ n : Fin 256, Real.exp (f n) : ℝ) : EReal) := by
  induction (Finset.univ : Finset (Fin 256)) using Finset.induction_on with
  | empty => simp
  | insert a t ha ih => rw [Finset.sum_insert ha, Finset.sum_insert ha, ih, EReal.coe_add]

theorem weight_eq (s : Fin 256 → EReal) (h : ∀ m, ∃ r : ℝ, s m = (r : EReal)) (m : Fin 256) :
    Ideal.div (Ideal.exp (s m - Ref.top s)) (∑ n : Fin 256, Ideal.exp (s n - Ref.top s)) = weight s m := by
  unfold weight
  rw [top_eq]
  obtain ⟨M, hM⟩ := fold_real s h
  rw [hM]
  choose f hf using h
  have e : (∑ n : Fin 256, Ideal.exp (s n - (M : EReal))) = ((∑ n : Fin 256, Real.exp (f n - M) : ℝ) : EReal) := by
    rw [← sum_real]
    refine Finset.sum_congr rfl fun n _ => ?_
    rw [hf, ← EReal.coe_sub, Ideal.exp_coe]
  have hpos : 0 < ∑ n : Fin 256, Real.exp (f n - M) := Finset.sum_pos (fun n _ => Real.exp_pos _) ⟨0, Finset.mem_univ _⟩
  rw [e, Ideal.div_coe hpos.ne', Ideal.div_coe hpos.ne',
    show Ideal.ofBits .f32 1065353216#32 = ((1 : ℝ) : EReal) by simp [Ideal.ofBits, Ideal.ieee, -EReal.coe_mul]; try norm_num]
  rw [EReal.coe_one, one_mul]

/-! ## The reference's arrays -/

variable (a0 : Vec Ideal S4x2048x2048 .bf16) (a1 : Vec Ideal S4x2048x2048 .f32) (a2 : Vec Ideal S4x256x2048 .f32) (a3 : Vec Ideal S2048x2048 .bf16)
    (a4 : Vec Ideal S2048x512 .bf16) (a5 : Vec Ideal S2048x1024 .bf16) (a6 : Vec Ideal S512x2048 .bf16) (a7 a8 a9 : Vec Ideal S2048 .f32)

/-- The reference's normalisation, a mean taken by division, is the kernel's. -/
theorem norm_eq (y : Fin 2048 → EReal) (l : Vec Ideal S2048 .f32) (c : Fin 2048) : Ref.norm y l c = nrm y (lift l) c := by
  unfold Ref.norm nrm inv
  rw [div_mean]
  rfl

theorem ref_y1 (b : Fin 4) (s : Fin 2048) : (fun c => val_main_v3 (F := Ideal) a0 a1 a3 (ix3 b s c)) = y1 (fun k => a0 (ix3 b s k)) (fun k => a1 (ix3 b s k)) a3 :=
  funext fun c => Ref.sum1 a0 a1 a3 b s c

theorem ref_h (b : Fin 4) (s c : Fin 2048) :
    val_main_v16 (F := Ideal) a0 a1 a3 a7 (ix3 b s c) = nrm (y1 (fun k => a0 (ix3 b s k)) (fun k => a1 (ix3 b s k)) a3) (lift a7) c := by
  rw [Ref.norm1, norm_eq, ref_y1]

/-- The reference's queries. -/
theorem ref_q (b : Fin 4) (s : Fin 2048) (l : Fin 512) : val_main_v18 (F := Ideal) a0 a1 a3 a4 a7 (ix3 b s l)
    = qry (nrm (y1 (fun k => a0 (ix3 b s k)) (fun k => a1 (ix3 b s k)) a3) (lift a7)) a4 l := by
  rw [Ref.queries]
  exact Finset.sum_congr rfl fun k _ => by rw [ref_h]

/-- The reference's keys and values. -/
theorem ref_kv (b : Fin 4) (m : Fin 256) (n : Fin 1024) : val_main_v34 (F := Ideal) a2 a5 a8 (ix3 b m n) = kvAt a2 a8 a5 b (ix2 m n) := by
  rw [Ref.keys]
  refine Finset.sum_congr rfl fun k _ => ?_
  rw [Ref.norm2]
  rfl

/-- The reference's scores. -/
theorem ref_score (b h : Fin 4) (s : Fin 2048) (m : Fin 256) : val_main_v40 (F := Ideal) a0 a1 a2 a3 a4 a5 a7 a8 (ix4 b h s m)
    = score (qry (nrm (y1 (fun k => a0 (ix3 b s k)) (fun k => a1 (ix3 b s k)) a3) (lift a7)) a4) (kvAt a2 a8 a5 b) (h.val * 128) (by omega) m := by
  rw [Ref.scores]
  unfold score
  refine congrArg (· * Ideal.ofBits .f32 1035273459#32) (Finset.sum_congr rfl fun d _ => ?_)
  rw [ref_q, ref_kv]

/-- Every score of the reference is a real number. -/
def RealScores : Prop := ∀ (b h : Fin 4) (s : Fin 2048) (m : Fin 256), ∃ r : ℝ, val_main_v40 (F := Ideal) a0 a1 a2 a3 a4 a5 a7 a8 (ix4 b h s m) = (r : EReal)

theorem ref_weight (hr : RealScores a0 a1 a2 a3 a4 a5 a7 a8) (b h : Fin 4) (s : Fin 2048) (m : Fin 256) :
    val_main_v51 (F := Ideal) a0 a1 a2 a3 a4 a5 a7 a8 (ix4 b h s m)
      = weight (score (qry (nrm (y1 (fun k => a0 (ix3 b s k)) (fun k => a1 (ix3 b s k)) a3) (lift a7)) a4) (kvAt a2 a8 a5 b) (h.val * 128) (by omega)) m := by
  have e : (fun n => val_main_v40 (F := Ideal) a0 a1 a2 a3 a4 a5 a7 a8 (ix4 b h s n))
      = score (qry (nrm (y1 (fun k => a0 (ix3 b s k)) (fun k => a1 (ix3 b s k)) a3) (lift a7)) a4) (kvAt a2 a8 a5 b) (h.val * 128) (by omega) :=
    funext fun n => ref_score a0 a1 a2 a3 a4 a5 a7 a8 b h s n
  rw [← e, ← weight_eq _ (fun n => hr b h s n), Ref.weights]
  simp only [Ref.power, Ref.largest]

theorem ref_att (hr : RealScores a0 a1 a2 a3 a4 a5 a7 a8) (b : Fin 4) (s : Fin 2048) (l : Fin 512) :
    val_main_v56 (F := Ideal) a0 a1 a2 a3 a4 a5 a7 a8 (ix3 b s l)
      = att (qry (nrm (y1 (fun k => a0 (ix3 b s k)) (fun k => a1 (ix3 b s k)) a3) (lift a7)) a4) (kvAt a2 a8 a5 b) l := by
  rw [Ref.att]
  unfold att
  refine Finset.sum_congr rfl fun m _ => ?_
  rw [ref_weight a0 a1 a2 a3 a4 a5 a7 a8 hr, ref_kv, mul_comm]

/-- The reference's first result. -/
theorem ref_sum (hr : RealScores a0 a1 a2 a3 a4 a5 a7 a8) : val_main_v59 (F := Ideal) a0 a1 a2 a3 a4 a5 a6 a7 a8 = resX a0 a1 a2 a3 a4 a5 a6 a7 a8 := by
  funext i
  idx_vars i
  rw [Ref.sum2, resX_ix]
  unfold rowSum y2
  refine congrArg₂ (· + ·) (congrFun (ref_y1 a0 a1 a3 i0 i1) i2) (Finset.sum_congr rfl fun k _ => ?_)
  rw [ref_att a0 a1 a2 a3 a4 a5 a7 a8 hr]

/-- The reference's second result. -/
theorem ref_norm (hr : RealScores a0 a1 a2 a3 a4 a5 a7 a8) :
    val_main_v73 (F := Ideal) a0 a1 a2 a3 a4 a5 a6 a7 a8 a9 = resH (resX a0 a1 a2 a3 a4 a5 a6 a7 a8) a9 := by
  funext i
  idx_vars i
  rw [Ref.norm3, norm_eq, resH_ix, ref_sum a0 a1 a2 a3 a4 a5 a6 a7 a8 hr]

/-! ## The precondition -/

theorem real_of_abs_lt {x : EReal} (h : max x (-x) < ⊤) : ∃ r : ℝ, x = (r : EReal) := by
  rw [max_lt_iff] at h
  induction x with
  | bot => simp at h
  | top => simp at h
  | coe r => exact ⟨r, rfl⟩

/-- The precondition tests the reference's scores. -/
theorem test_scores : Cert.Pre_finite_scores.fn (F := Ideal) a0 a1 a2 a3 a4 a5 a6 a7 a8 a9
    = Cert.Pre_finite_scores.fn_part2 (F := Ideal) (val_main_v40 (F := Ideal) a0 a1 a2 a3 a4 a5 a7 a8) := rfl

/-- So where it holds every score is a real number. -/
theorem scores_real (h : Cert.Pre_finite_scores.fn (F := Ideal) a0 a1 a2 a3 a4 a5 a6 a7 a8 a9 = fun _ => 1#1) : RealScores a0 a1 a2 a3 a4 a5 a7 a8 := by
  intro b k s m
  rw [test_scores] at h
  have h := congrFun h (ix4 b k s m)
  revert h
  generalize val_main_v40 (F := Ideal) a0 a1 a2 a3 a4 a5 a7 a8 = y
  pointwise [Cert.Pre_finite_scores.fn_part2]
  generalize y (ix4 b k s m) = x
  rw [show Ideal.ofBits .f32 2139095040#32 = ⊤ by simp [Ideal.ofBits, Ideal.ieee]]
  intro h
  have h : max x (-x) < ⊤ := of_decide_eq_true (by
    by_contra hn
    rw [Bool.not_eq_true] at hn
    exact absurd (h.symm.trans (congrArg BitVec.ofBool hn)) (by decide))
  exact real_of_abs_lt h

end Cert.MidMix
-- ==== Proof.MidClaims.lean ====
/- THE CLAIMS about the middle call: the reference's frame, and the equality of the two results at the ideal instance wherever
   every score of the memory attention is finite. -/
module

public import proofs.«01_k».proof.Proof.MidEq
public import proofs.«01_k».proof.Proof.Gen.MidReferenceIdeal.Run
public import proofs.«01_k».proof.Defs

@[expose] public section

noncomputable section

namespace Cert.MidMix

open Idealize.ShloMosaic Idealize.SL.Sem

theorem frame_reference : Cert.quiescent_MidReferenceIdeal := fun m ρ _ =>
  (θ_run Cert.MidReferenceIdeal.defs _ _).mono (fun r h => ⟨fun c => (h c).2.2, Idealize.ShloMosaic.sem_eq_zero_of_no_sems (by decide) r.2⟩)
    (Cert.MidReferenceIdeal.Value.run (F := Ideal) m ρ)

/-- Kernel and reference leave the same two arrays: the second residual of arguments that agree, and its normalised rows. -/
theorem algebraic : Cert.algebraic_MidKernelIdeal_MidReferenceIdeal_pre_finite_scores := by
  intro m ρ m' ρ' hpre hagree
  refine ⟨resXOf m, resHOf m,
    (θ_run Cert.MidKernelIdeal.defs _ _).mono (fun r h c => ⟨(h c).1.trans (final10 m c), (h c).2.1.trans (final11 m c), (h c).2.2⟩)
    (Cert.MidKernelIdeal.Value.run_blocks m ρ), ?_⟩
  refine (θ_run Cert.MidReferenceIdeal.defs _ _).mono (fun r h c => ⟨(h c).1.trans ?_, (h c).2.1.trans ?_, (h c).2.2⟩)
    (Cert.MidReferenceIdeal.Value.run (F := Ideal) m' ρ')
  · obtain ⟨e0, e1, e2, e3, e4, e5, e6, e7, e8, e9⟩ := hagree c
    rw [Cert.MidReferenceIdeal.Read.val_main_v59_eq, e0, e1, e2, e3, e4, e5, e6, e7, e8]
    exact ref_sum _ _ _ _ _ _ _ _ _ (scores_real _ _ _ _ _ _ _ _ _ _ (hpre c))
  · obtain ⟨e0, e1, e2, e3, e4, e5, e6, e7, e8, e9⟩ := hagree c
    rw [Cert.MidReferenceIdeal.Read.val_main_v73_eq, e0, e1, e2, e3, e4, e5, e6, e7, e8, e9]
    exact ref_norm _ _ _ _ _ _ _ _ _ _ (scores_real _ _ _ _ _ _ _ _ _ _ (hpre c))

end Cert.MidMix

end
-- ==== Proof.lean ====
module

public import proofs.«01_k».proof.Proof.Gen.KernelIdeal.Value
public import proofs.«01_k».proof.Proof.Gen.UpKernelIdeal.Value
public import proofs.«01_k».proof.Proof.Gen.UpReferenceIdeal.Run
public import proofs.«01_k».proof.Proof.Gen.UpReferenceIdeal.Read
public import proofs.«01_k».proof.Proof.Gen.DownKernelIdeal.Value
public import proofs.«01_k».proof.Proof.Gen.DownReferenceIdeal.Run
public import proofs.«01_k».proof.Proof.Gen.DownReferenceIdeal.Read
public import proofs.«01_k».proof.Proof.Gen.UpKernel.Frame
public import proofs.«01_k».proof.Proof.Gen.DownKernel.Frame
public import proofs.«01_k».proof.Proof.Gen.Pre_finite_gate
public import proofs.«01_k».proof.Proof.Gen.QkvKernelIdeal.Value
public import proofs.«01_k».proof.Proof.Gen.QkvReferenceIdeal.Run
public import proofs.«01_k».proof.Proof.Gen.QkvReferenceIdeal.Read
public import proofs.«01_k».proof.Proof.Gen.QkvKernel.Frame
public import proofs.«01_k».proof.Proof.Gen.MergeKernelIdeal.Value
public import proofs.«01_k».proof.Proof.Gen.MergeReferenceIdeal.Run
public import proofs.«01_k».proof.Proof.Gen.MergeReferenceIdeal.Read
public import proofs.«01_k».proof.Proof.Gen.MergeKernel.Frame
public import proofs.«01_k».proof.Proof.Gen.MidKernelIdeal.Value
public import proofs.«01_k».proof.Proof.Gen.MidReferenceIdeal.Run
public import proofs.«01_k».proof.Proof.Gen.MidReferenceIdeal.Read
public import proofs.«01_k».proof.Proof.Gen.MidKernel.Frame
public import proofs.«01_k».proof.Proof.Gen.Pre_finite_scores
public import proofs.«01_k».proof.Proof.DownClaims
public import proofs.«01_k».proof.Proof.UpClaims
public import proofs.«01_k».proof.Proof.QkvClaims
public import proofs.«01_k».proof.Proof.MergeClaims
public import proofs.«01_k».proof.Proof.MidClaims
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts,
    Cert.KernelIdeal.Gen.facts,
    Cert.UpKernel.Gen.facts,
    Cert.UpKernelIdeal.Gen.facts,
    Cert.UpReferenceIdeal.Gen.facts,
    Cert.DownKernel.Gen.facts,
    Cert.DownKernelIdeal.Gen.facts,
    Cert.DownReferenceIdeal.Gen.facts,
    Cert.QkvKernel.Gen.facts,
    Cert.QkvKernelIdeal.Gen.facts,
    Cert.QkvReferenceIdeal.Gen.facts,
    Cert.MergeKernel.Gen.facts,
    Cert.MergeKernelIdeal.Gen.facts,
    Cert.MergeReferenceIdeal.Gen.facts,
    Cert.MidKernel.Gen.facts,
    Cert.MidKernelIdeal.Gen.facts,
    Cert.MidReferenceIdeal.Gen.facts,
    Cert.Pre_finite_gate.Gen.facts,
    Cert.Pre_finite_scores.Gen.facts,
    fun m ρ _ => Cert.Kernel.Gen.frame m ρ,
    fun m ρ _ => Cert.KernelIdeal.Gen.frame m ρ,
    fun m ρ _ => Cert.UpKernel.Gen.frame m ρ,
    fun m ρ _ => Cert.UpKernelIdeal.Gen.frame m ρ,
    fun m ρ _ => Cert.UpKernelIdeal.Gen.frame m ρ,
    UpMix.frame_reference,
    fun m ρ _ => UpMix.frame_reference m ρ trivial,
    fun m ρ _ => Cert.DownKernel.Gen.frame m ρ,
    fun m ρ _ => Cert.DownKernelIdeal.Gen.frame m ρ,
    DownMix.frame_reference,
    fun m ρ _ => Cert.QkvKernel.Gen.frame m ρ,
    fun m ρ _ => Cert.QkvKernelIdeal.Gen.frame m ρ,
    QkvMix.frame_reference,
    fun m ρ _ => Cert.MergeKernel.Gen.frame m ρ,
    fun m ρ _ => Cert.MergeKernelIdeal.Gen.frame m ρ,
    MergeMix.frame_reference,
    fun m ρ _ => Cert.MidKernel.Gen.frame m ρ,
    fun m ρ _ => Cert.MidKernelIdeal.Gen.frame m ρ,
    fun m ρ _ => Cert.MidKernelIdeal.Gen.frame m ρ,
    MidMix.frame_reference,
    fun m ρ _ => MidMix.frame_reference m ρ trivial,
    ⟨IdealRules.named_const.statement Cert.KernelIdeal.κ "scale_log2_e" .f32 0x3E0293EE#32 _ rfl,
      IdealRules.named_const.statement Cert.KernelIdeal.κ "scale" .f32 0x3DB504F3#32 _ rfl⟩,
    trivial, UpMix.algebraic,
    trivial, DownMix.algebraic,
    trivial, QkvMix.algebraic,
    trivial, MergeMix.algebraic,
    trivial, MidMix.algebraic⟩

end Cert.Proof

end
